-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S2x512x768 1 × IVec S768x512 1 × IVec S2x512x8x64 1 :=
  let main_cst : FVec F S_ .bf16 := constant S_ .bf16 0xFF80#16
  let main_v0 : FVec F S2x512x768 .bf16 := broadcastInDim S2x512x768 ![] bcast_S_S2x512x768 main_cst
  let main_v1 : IVec S2x512x768 1 := cmpf .ogt main_arg0 main_v0
  let main_cst_0 : FVec F S_ .bf16 := constant S_ .bf16 0x7F80#16
  let main_v2 : FVec F S2x512x768 .bf16 := broadcastInDim S2x512x768 ![] bcast_S_S2x512x768 main_cst_0
  let main_v3 : IVec S2x512x768 1 := cmpf .olt main_arg0 main_v2
  let main_v4 : IVec S2x512x768 1 := andi main_v1 main_v3
  let main_cst_1 : FVec F S_ .bf16 := constant S_ .bf16 0xFF80#16
  let main_v5 : FVec F S768x512 .bf16 := broadcastInDim S768x512 ![] bcast_S_S768x512 main_cst_1
  let main_v6 : IVec S768x512 1 := cmpf .ogt main_arg1 main_v5
  let main_cst_2 : FVec F S_ .bf16 := constant S_ .bf16 0x7F80#16
  let main_v7 : FVec F S768x512 .bf16 := broadcastInDim S768x512 ![] bcast_S_S768x512 main_cst_2
  let main_v8 : IVec S768x512 1 := cmpf .olt main_arg1 main_v7
  let main_v9 : IVec S768x512 1 := andi main_v6 main_v8
  let main_cst_3 : FVec F S_ .bf16 := constant S_ .bf16 0xFF80#16
  let main_v10 : FVec F S2x512x8x64 .bf16 := broadcastInDim S2x512x8x64 ![] bcast_S_S2x512x8x64 main_cst_3
  let main_v11 : IVec S2x512x8x64 1 := cmpf .ogt main_arg2 main_v10
  let main_cst_4 : FVec F S_ .bf16 := constant S_ .bf16 0x7F80#16
  let main_v12 : FVec F S2x512x8x64 .bf16 := broadcastInDim S2x512x8x64 ![] bcast_S_S2x512x8x64 main_cst_4
  let main_v13 : IVec S2x512x8x64 1 := cmpf .olt main_arg2 main_v12
  let main_v14 : IVec S2x512x8x64 1 := andi main_v11 main_v13
  (main_v4, main_v9, main_v14)
-- ==== Pre_finite_ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x4096x8x64 : S_.BroadcastsInDim S2x4096x8x64 (![] : Fin 0 → Fin S2x4096x8x64.rank)

variable [Facts]

def fn {F : FTy → Type} [FloatOps F] (main_arg0 : FVec F S2x512x768 .bf16) (main_arg1 : FVec F S768x512 .bf16) (main_arg2 : FVec F S2x4096x8x64 .bf16) (main_arg3 : FVec F S2x4096x8x64 .bf16) (main_arg4 : FVec F S512x768 .bf16) : IVec S2x512x768 1 × IVec S768x512 1 × IVec S2x4096x8x64 1 :=
  let main_cst : FVec F S_ .bf16 := constant S_ .bf16 0xFF80#16
  let main_v0 : FVec F S2x512x768 .bf16 := broadcastInDim S2x512x768 ![] bcast_S_S2x512x768 main_cst
  let main_v1 : IVec S2x512x768 1 := cmpf .ogt main_arg0 main_v0
  let main_cst_0 : FVec F S_ .bf16 := constant S_ .bf16 0x7F80#16
  let main_v2 : FVec F S2x512x768 .bf16 := broadcastInDim S2x512x768 ![] bcast_S_S2x512x768 main_cst_0
  let main_v3 : IVec S2x512x768 1 := cmpf .olt main_arg0 main_v2
  let main_v4 : IVec S2x512x768 1 := andi main_v1 main_v3
  let main_cst_1 : FVec F S_ .bf16 := constant S_ .bf16 0xFF80#16
  let main_v5 : FVec F S768x512 .bf16 := broadcastInDim S768x512 ![] bcast_S_S768x512 main_cst_1
  let main_v6 : IVec S768x512 1 := cmpf .ogt main_arg1 main_v5
  let main_cst_2 : FVec F S_ .bf16 := constant S_ .bf16 0x7F80#16
  let main_v7 : FVec F S768x512 .bf16 := broadcastInDim S768x512 ![] bcast_S_S768x512 main_cst_2
  let main_v8 : IVec S768x512 1 := cmpf .olt main_arg1 main_v7
  let main_v9 : IVec S768x512 1 := andi main_v6 main_v8
  let main_cst_3 : FVec F S_ .bf16 := constant S_ .bf16 0xFF80#16
  let main_v10 : FVec F S2x4096x8x64 .bf16 := broadcastInDim S2x4096x8x64 ![] bcast_S_S2x4096x8x64 main_cst_3
  let main_v11 : IVec S2x4096x8x64 1 := cmpf .ogt main_arg2 main_v10
  let main_cst_4 : FVec F S_ .bf16 := constant S_ .bf16 0x7F80#16
  let main_v12 : FVec F S2x4096x8x64 .bf16 := broadcastInDim S2x4096x8x64 ![] bcast_S_S2x4096x8x64 main_cst_4
  let main_v13 : IVec S2x4096x8x64 1 := cmpf .olt main_arg2 main_v12
  let main_v14 : IVec S2x4096x8x64 1 := andi main_v11 main_v13
  (main_v4, main_v9, main_v14)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S8x2x2x512x64 : Shape := ⟨5, ![8, 2, 2, 512, 64]⟩
abbrev S1024x512 : Shape := ⟨2, ![1024, 512]⟩
abbrev S3x8 : Shape := ⟨2, ![3, 8]⟩
abbrev S8 : Shape := ⟨1, ![8]⟩
abbrev S_ : Shape := ⟨0, ![]⟩
abbrev S1x512x1x64 : Shape := ⟨4, ![1, 512, 1, 64]⟩
abbrev S512x64 : Shape := ⟨2, ![512, 64]⟩
abbrev S1x1x1x512x64 : Shape := ⟨5, ![1, 1, 1, 512, 64]⟩
abbrev S1x1 : Shape := ⟨2, ![1, 1]⟩
abbrev S1 : Shape := ⟨1, ![1]⟩
abbrev S1x2x2x512x64 : Shape := ⟨5, ![1, 2, 2, 512, 64]⟩
abbrev S2x2x512x64 : Shape := ⟨4, ![2, 2, 512, 64]⟩
abbrev S1024x768 : Shape := ⟨2, ![1024, 768]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .f32⟩
  | .local _ .vmem, ⟨6, _⟩ => ⟨S8x2x2x512x64, .bf16⟩
  | .local _ .vmem, ⟨7, _⟩ => ⟨S1024x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_328 : BitVec 32 := 0#32
  let c1_i32_326 : BitVec 32 := 1#32
  let c1_i32_327 : BitVec 32 := 1#32
  let v485 : BitVec 32 := Scalar.muli c1_i32_326 c1_i32_327
  let v486 : BitVec 32 := Scalar.addi c0_i32_328 v485
  v486.toNat
def k0_dev2 : Nat :=
  let c0_i32_332 : BitVec 32 := 0#32
  let c3_i32_330 : BitVec 32 := 3#32
  let c1_i32_331 : BitVec 32 := 1#32
  let v487 : BitVec 32 := Scalar.muli c3_i32_330 c1_i32_331
  let v488 : BitVec 32 := Scalar.addi c0_i32_332 v487
  v488.toNat
def k0_dev3 : Nat :=
  let c0_i32_336 : BitVec 32 := 0#32
  let c4_i32_334 : BitVec 32 := 4#32
  let c1_i32_335 : BitVec 32 := 1#32
  let v489 : BitVec 32 := Scalar.muli c4_i32_334 c1_i32_335
  let v490 : BitVec 32 := Scalar.addi c0_i32_336 v489
  v490.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .eq v2 c1_i32_1
  let v8 : BitVec 32 := Scalar.extui v7
  let c0_i32_2 : BitVec 32 := 0#32
  let v9 : BitVec 1 := Scalar.cmpi .ne v8 c0_i32_2
  v9

def k0_dev4 : Nat :=
  let c0_i32_328 : BitVec 32 := 0#32
  let c0_i32_326 : BitVec 32 := 0#32
  let c1_i32_327 : BitVec 32 := 1#32
  let v485 : BitVec 32 := Scalar.muli c0_i32_326 c1_i32_327
  let v486 : BitVec 32 := Scalar.addi c0_i32_328 v485
  v486.toNat
def k0_dev5 : Nat :=
  let c0_i32_332 : BitVec 32 := 0#32
  let c2_i32_330 : BitVec 32 := 2#32
  let c1_i32_331 : BitVec 32 := 1#32
  let v487 : BitVec 32 := Scalar.muli c2_i32_330 c1_i32_331
  let v488 : BitVec 32 := Scalar.addi c0_i32_332 v487
  v488.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .eq v2 c2_i32
  let v11 : BitVec 32 := Scalar.extui v10
  let c0_i32_3 : BitVec 32 := 0#32
  let v12 : BitVec 1 := Scalar.cmpi .ne v11 c0_i32_3
  v12

def k0_dev6 : Nat :=
  let c0_i32_328 : BitVec 32 := 0#32
  let c1_i32_326 : BitVec 32 := 1#32
  let c1_i32_327 : BitVec 32 := 1#32
  let v485 : BitVec 32 := Scalar.muli c1_i32_326 c1_i32_327
  let v486 : BitVec 32 := Scalar.addi c0_i32_328 v485
  v486.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .eq v2 c3_i32
  let v14 : BitVec 32 := Scalar.extui v13
  let c0_i32_4 : BitVec 32 := 0#32
  let v15 : BitVec 1 := Scalar.cmpi .ne v14 c0_i32_4
  v15

def k0_dev7 : Nat :=
  let c0_i32_328 : BitVec 32 := 0#32
  let c0_i32_326 : BitVec 32 := 0#32
  let c1_i32_327 : BitVec 32 := 1#32
  let v485 : BitVec 32 := Scalar.muli c0_i32_326 c1_i32_327
  let v486 : BitVec 32 := Scalar.addi c0_i32_328 v485
  v486.toNat
def k0_dev8 : Nat :=
  let c0_i32_332 : BitVec 32 := 0#32
  let c7_i32_330 : BitVec 32 := 7#32
  let c1_i32_331 : BitVec 32 := 1#32
  let v487 : BitVec 32 := Scalar.muli c7_i32_330 c1_i32_331
  let v488 : BitVec 32 := Scalar.addi c0_i32_332 v487
  v488.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .eq v2 c4_i32
  let v17 : BitVec 32 := Scalar.extui v16
  let c0_i32_5 : BitVec 32 := 0#32
  let v18 : BitVec 1 := Scalar.cmpi .ne v17 c0_i32_5
  v18

def k0_dev9 : Nat :=
  let c0_i32_328 : BitVec 32 := 0#32
  let c0_i32_326 : BitVec 32 := 0#32
  let c1_i32_327 : BitVec 32 := 1#32
  let v485 : BitVec 32 := Scalar.muli c0_i32_326 c1_i32_327
  let v486 : BitVec 32 := Scalar.addi c0_i32_328 v485
  v486.toNat
def k0_dev10 : Nat :=
  let c0_i32_332 : BitVec 32 := 0#32
  let c5_i32_330 : BitVec 32 := 5#32
  let c1_i32_331 : BitVec 32 := 1#32
  let v487 : BitVec 32 := Scalar.muli c5_i32_330 c1_i32_331
  let v488 : BitVec 32 := Scalar.addi c0_i32_332 v487
  v488.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .eq v2 c5_i32
  let v20 : BitVec 32 := Scalar.extui v19
  let c0_i32_6 : BitVec 32 := 0#32
  let v21 : BitVec 1 := Scalar.cmpi .ne v20 c0_i32_6
  v21

def k0_dev11 : Nat :=
  let c0_i32_328 : BitVec 32 := 0#32
  let c4_i32_326 : BitVec 32 := 4#32
  let c1_i32_327 : BitVec 32 := 1#32
  let v485 : BitVec 32 := Scalar.muli c4_i32_326 c1_i32_327
  let v486 : BitVec 32 := Scalar.addi c0_i32_328 v485
  v486.toNat
def k0_dev12 : Nat :=
  let c0_i32_332 : BitVec 32 := 0#32
  let c6_i32_330 : BitVec 32 := 6#32
  let c1_i32_331 : BitVec 32 := 1#32
  let v487 : BitVec 32 := Scalar.muli c6_i32_330 c1_i32_331
  let v488 : BitVec 32 := Scalar.addi c0_i32_332 v487
  v488.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .eq v2 c6_i32
  let v23 : BitVec 32 := Scalar.extui v22
  let c0_i32_7 : BitVec 32 := 0#32
  let v24 : BitVec 1 := Scalar.cmpi .ne v23 c0_i32_7
  v24

def k0_dev13 : Nat :=
  let c0_i32_328 : BitVec 32 := 0#32
  let c5_i32_326 : BitVec 32 := 5#32
  let c1_i32_327 : BitVec 32 := 1#32
  let v485 : BitVec 32 := Scalar.muli c5_i32_326 c1_i32_327
  let v486 : BitVec 32 := Scalar.addi c0_i32_328 v485
  v486.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .eq v2 c7_i32
  let v26 : BitVec 32 := Scalar.extui v25
  let c0_i32_8 : BitVec 32 := 0#32
  let v27 : BitVec 1 := Scalar.cmpi .ne v26 c0_i32_8
  v27

def k0_dev14 : Nat :=
  let c0_i32_328 : BitVec 32 := 0#32
  let c3_i32_326 : BitVec 32 := 3#32
  let c1_i32_327 : BitVec 32 := 1#32
  let v485 : BitVec 32 := Scalar.muli c3_i32_326 c1_i32_327
  let v486 : BitVec 32 := Scalar.addi c0_i32_328 v485
  v486.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_9 : BitVec 32 := 0#32
  let v28 : BitVec 1 := Scalar.cmpi .eq v2 c0_i32_9
  let v29 : BitVec 32 := Scalar.extui v28
  let c0_i32_10 : BitVec 32 := 0#32
  let v30 : BitVec 1 := Scalar.cmpi .ne v29 c0_i32_10
  v30

def k0_dev15 : Nat :=
  let c0_i32_620 : BitVec 32 := 0#32
  let c1_i32_618 : BitVec 32 := 1#32
  let c1_i32_619 : BitVec 32 := 1#32
  let v645 : BitVec 32 := Scalar.muli c1_i32_618 c1_i32_619
  let v646 : BitVec 32 := Scalar.addi c0_i32_620 v645
  v646.toNat
def k0_dev16 : Nat :=
  let c0_i32_636 : BitVec 32 := 0#32
  let c3_i32_634 : BitVec 32 := 3#32
  let c1_i32_635 : BitVec 32 := 1#32
  let v655 : BitVec 32 := Scalar.muli c3_i32_634 c1_i32_635
  let v656 : BitVec 32 := Scalar.addi c0_i32_636 v655
  v656.toNat
def k0_dev17 : Nat :=
  let c0_i32_652 : BitVec 32 := 0#32
  let c4_i32_650 : BitVec 32 := 4#32
  let c1_i32_651 : BitVec 32 := 1#32
  let v665 : BitVec 32 := Scalar.muli c4_i32_650 c1_i32_651
  let v666 : BitVec 32 := Scalar.addi c0_i32_652 v665
  v666.toNat
def k0_dev18 : Nat :=
  let c0_i32_668 : BitVec 32 := 0#32
  let c1_i32_666 : BitVec 32 := 1#32
  let c1_i32_667 : BitVec 32 := 1#32
  let v675 : BitVec 32 := Scalar.muli c1_i32_666 c1_i32_667
  let v676 : BitVec 32 := Scalar.addi c0_i32_668 v675
  v676.toNat
def k0_dev19 : Nat :=
  let c0_i32_684 : BitVec 32 := 0#32
  let c3_i32_682 : BitVec 32 := 3#32
  let c1_i32_683 : BitVec 32 := 1#32
  let v685 : BitVec 32 := Scalar.muli c3_i32_682 c1_i32_683
  let v686 : BitVec 32 := Scalar.addi c0_i32_684 v685
  v686.toNat
def k0_dev20 : Nat :=
  let c0_i32_700 : BitVec 32 := 0#32
  let c4_i32_698 : BitVec 32 := 4#32
  let c1_i32_699 : BitVec 32 := 1#32
  let v695 : BitVec 32 := Scalar.muli c4_i32_698 c1_i32_699
  let v696 : BitVec 32 := Scalar.addi c0_i32_700 v695
  v696.toNat
def k0_dev21 : Nat :=
  let c0_i32_716 : BitVec 32 := 0#32
  let c1_i32_714 : BitVec 32 := 1#32
  let c1_i32_715 : BitVec 32 := 1#32
  let v705 : BitVec 32 := Scalar.muli c1_i32_714 c1_i32_715
  let v706 : BitVec 32 := Scalar.addi c0_i32_716 v705
  v706.toNat
def k0_dev22 : Nat :=
  let c0_i32_732 : BitVec 32 := 0#32
  let c3_i32_730 : BitVec 32 := 3#32
  let c1_i32_731 : BitVec 32 := 1#32
  let v715 : BitVec 32 := Scalar.muli c3_i32_730 c1_i32_731
  let v716 : BitVec 32 := Scalar.addi c0_i32_732 v715
  v716.toNat
def k0_dev23 : Nat :=
  let c0_i32_748 : BitVec 32 := 0#32
  let c4_i32_746 : BitVec 32 := 4#32
  let c1_i32_747 : BitVec 32 := 1#32
  let v725 : BitVec 32 := Scalar.muli c4_i32_746 c1_i32_747
  let v726 : BitVec 32 := Scalar.addi c0_i32_748 v725
  v726.toNat
def k0_dev24 : Nat :=
  let c0_i32_764 : BitVec 32 := 0#32
  let c1_i32_762 : BitVec 32 := 1#32
  let c1_i32_763 : BitVec 32 := 1#32
  let v735 : BitVec 32 := Scalar.muli c1_i32_762 c1_i32_763
  let v736 : BitVec 32 := Scalar.addi c0_i32_764 v735
  v736.toNat
def k0_dev25 : Nat :=
  let c0_i32_780 : BitVec 32 := 0#32
  let c3_i32_778 : BitVec 32 := 3#32
  let c1_i32_779 : BitVec 32 := 1#32
  let v745 : BitVec 32 := Scalar.muli c3_i32_778 c1_i32_779
  let v746 : BitVec 32 := Scalar.addi c0_i32_780 v745
  v746.toNat
def k0_dev26 : Nat :=
  let c0_i32_796 : BitVec 32 := 0#32
  let c4_i32_794 : BitVec 32 := 4#32
  let c1_i32_795 : BitVec 32 := 1#32
  let v755 : BitVec 32 := Scalar.muli c4_i32_794 c1_i32_795
  let v756 : BitVec 32 := Scalar.addi c0_i32_796 v755
  v756.toNat
def k0_dev27 : Nat :=
  let c0_i32_812 : BitVec 32 := 0#32
  let c1_i32_810 : BitVec 32 := 1#32
  let c1_i32_811 : BitVec 32 := 1#32
  let v765 : BitVec 32 := Scalar.muli c1_i32_810 c1_i32_811
  let v766 : BitVec 32 := Scalar.addi c0_i32_812 v765
  v766.toNat
def k0_dev28 : Nat :=
  let c0_i32_828 : BitVec 32 := 0#32
  let c3_i32_826 : BitVec 32 := 3#32
  let c1_i32_827 : BitVec 32 := 1#32
  let v775 : BitVec 32 := Scalar.muli c3_i32_826 c1_i32_827
  let v776 : BitVec 32 := Scalar.addi c0_i32_828 v775
  v776.toNat
def k0_dev29 : Nat :=
  let c0_i32_844 : BitVec 32 := 0#32
  let c4_i32_842 : BitVec 32 := 4#32
  let c1_i32_843 : BitVec 32 := 1#32
  let v785 : BitVec 32 := Scalar.muli c4_i32_842 c1_i32_843
  let v786 : BitVec 32 := Scalar.addi c0_i32_844 v785
  v786.toNat
def k0_dev30 : Nat :=
  let c0_i32_860 : BitVec 32 := 0#32
  let c1_i32_858 : BitVec 32 := 1#32
  let c1_i32_859 : BitVec 32 := 1#32
  let v795 : BitVec 32 := Scalar.muli c1_i32_858 c1_i32_859
  let v796 : BitVec 32 := Scalar.addi c0_i32_860 v795
  v796.toNat
def k0_dev31 : Nat :=
  let c0_i32_876 : BitVec 32 := 0#32
  let c3_i32_874 : BitVec 32 := 3#32
  let c1_i32_875 : BitVec 32 := 1#32
  let v805 : BitVec 32 := Scalar.muli c3_i32_874 c1_i32_875
  let v806 : BitVec 32 := Scalar.addi c0_i32_876 v805
  v806.toNat
def k0_dev32 : Nat :=
  let c0_i32_892 : BitVec 32 := 0#32
  let c4_i32_890 : BitVec 32 := 4#32
  let c1_i32_891 : BitVec 32 := 1#32
  let v815 : BitVec 32 := Scalar.muli c4_i32_890 c1_i32_891
  let v816 : BitVec 32 := Scalar.addi c0_i32_892 v815
  v816.toNat
def k0_dev33 : Nat :=
  let c0_i32_908 : BitVec 32 := 0#32
  let c1_i32_906 : BitVec 32 := 1#32
  let c1_i32_907 : BitVec 32 := 1#32
  let v825 : BitVec 32 := Scalar.muli c1_i32_906 c1_i32_907
  let v826 : BitVec 32 := Scalar.addi c0_i32_908 v825
  v826.toNat
def k0_dev34 : Nat :=
  let c0_i32_924 : BitVec 32 := 0#32
  let c3_i32_922 : BitVec 32 := 3#32
  let c1_i32_923 : BitVec 32 := 1#32
  let v835 : BitVec 32 := Scalar.muli c3_i32_922 c1_i32_923
  let v836 : BitVec 32 := Scalar.addi c0_i32_924 v835
  v836.toNat
def k0_dev35 : Nat :=
  let c0_i32_940 : BitVec 32 := 0#32
  let c4_i32_938 : BitVec 32 := 4#32
  let c1_i32_939 : BitVec 32 := 1#32
  let v845 : BitVec 32 := Scalar.muli c4_i32_938 c1_i32_939
  let v846 : BitVec 32 := Scalar.addi c0_i32_940 v845
  v846.toNat
def k0_dev36 : Nat :=
  let c0_i32_956 : BitVec 32 := 0#32
  let c1_i32_954 : BitVec 32 := 1#32
  let c1_i32_955 : BitVec 32 := 1#32
  let v855 : BitVec 32 := Scalar.muli c1_i32_954 c1_i32_955
  let v856 : BitVec 32 := Scalar.addi c0_i32_956 v855
  v856.toNat
def k0_dev37 : Nat :=
  let c0_i32_972 : BitVec 32 := 0#32
  let c3_i32_970 : BitVec 32 := 3#32
  let c1_i32_971 : BitVec 32 := 1#32
  let v865 : BitVec 32 := Scalar.muli c3_i32_970 c1_i32_971
  let v866 : BitVec 32 := Scalar.addi c0_i32_972 v865
  v866.toNat
def k0_dev38 : Nat :=
  let c0_i32_988 : BitVec 32 := 0#32
  let c4_i32_986 : BitVec 32 := 4#32
  let c1_i32_987 : BitVec 32 := 1#32
  let v875 : BitVec 32 := Scalar.muli c4_i32_986 c1_i32_987
  let v876 : BitVec 32 := Scalar.addi c0_i32_988 v875
  v876.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v101 : BitVec 32 := Scalar.extui v97
  let c0_i32_35 : BitVec 32 := 0#32
  let v102 : BitVec 1 := Scalar.cmpi .ne v101 c0_i32_35
  v102

def k0_dev39 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v148 : BitVec 32 := Scalar.extui v97
  let c0_i32_70 : BitVec 32 := 0#32
  let v149 : BitVec 1 := Scalar.cmpi .ne v148 c0_i32_70
  v149

def k0_dev40 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v195 : BitVec 32 := Scalar.extui v97
  let c0_i32_106 : BitVec 32 := 0#32
  let v196 : BitVec 1 := Scalar.cmpi .ne v195 c0_i32_106
  v196

def k0_dev41 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v242 : BitVec 32 := Scalar.extui v97
  let c0_i32_141 : BitVec 32 := 0#32
  let v243 : BitVec 1 := Scalar.cmpi .ne v242 c0_i32_141
  v243

def k0_dev42 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v289 : BitVec 32 := Scalar.extui v97
  let c0_i32_176 : BitVec 32 := 0#32
  let v290 : BitVec 1 := Scalar.cmpi .ne v289 c0_i32_176
  v290

def k0_dev43 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v336 : BitVec 32 := Scalar.extui v97
  let c0_i32_211 : BitVec 32 := 0#32
  let v337 : BitVec 1 := Scalar.cmpi .ne v336 c0_i32_211
  v337

def k0_dev44 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v383 : BitVec 32 := Scalar.extui v97
  let c0_i32_246 : BitVec 32 := 0#32
  let v384 : BitVec 1 := Scalar.cmpi .ne v383 c0_i32_246
  v384

def k0_dev45 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v91 : BitVec 1 := Scalar.cmpi .eq v2 c1_i32_29
  let c3_i32_30 : BitVec 32 := 3#32
  let v92 : BitVec 1 := Scalar.cmpi .eq v2 c3_i32_30
  let v93 : BitVec 1 := Scalar.ori v91 v92
  let c4_i32_31 : BitVec 32 := 4#32
  let v94 : BitVec 1 := Scalar.cmpi .eq v2 c4_i32_31
  let v95 : BitVec 1 := Scalar.ori v93 v94
  let c5_i32_32 : BitVec 32 := 5#32
  let v96 : BitVec 1 := Scalar.cmpi .eq v2 c5_i32_32
  let v97 : BitVec 1 := Scalar.ori v95 v96
  let v430 : BitVec 32 := Scalar.extui v97
  let c0_i32_281 : BitVec 32 := 0#32
  let v431 : BitVec 1 := Scalar.cmpi .ne v430 c0_i32_281
  v431

def k0_dev46 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_325 : BitVec 32 := 3#32
  let v485 : BitVec 1 := Scalar.cmpi .eq v2 c3_i32_325
  let c7_i32_327 : BitVec 32 := 7#32
  let c1_i32_326 : BitVec 32 := 1#32
  let v486 : BitVec 32 := Scalar.addi v2 c1_i32_326
  let v487 : BitVec 32 := Scalar.select v485 c7_i32_327 v486
  let c1_i32_333 : BitVec 32 := 1#32
  let v488 : BitVec 32 := Scalar.muli v487 c1_i32_333
  let v489 : BitVec 32 := Scalar.addi c0_i32_334 v488
  v489.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x8x512x4096 : Shape := ⟨4, ![2, 8, 512, 4096]⟩
abbrev S1x1x512x4096 : Shape := ⟨4, ![1, 1, 512, 4096]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x4096x8x64, .bf16⟩
  | .hbm, ⟨3, _⟩ => ⟨S2x4096x8x64, .bf16⟩
  | .hbm, ⟨4, _⟩ => ⟨S512x768, .bf16⟩
  | .hbm, ⟨5, _⟩ => ⟨S2x512x768, .f32⟩
  | .hbm, ⟨6, _⟩ => ⟨S768x512, .f32⟩
  | .hbm, ⟨7, _⟩ => ⟨S2x4096x8x64, .f32⟩
  | .hbm, ⟨8, _⟩ => ⟨S2x4096x8x64, .f32⟩
  | .hbm, ⟨9, _⟩ => ⟨S512x768, .f32⟩
  | .hbm, ⟨10, _⟩ => ⟨S2x512x512, .f32⟩
  | .hbm, ⟨11, _⟩ => ⟨S2x512x8x64, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S1x4096, .i32⟩
  | .hbm, ⟨52, _⟩ => ⟨S512x4096, .i32⟩
  | .hbm, ⟨53, _⟩ => ⟨S512x4096, .i32⟩
  | .hbm, ⟨54, _⟩ => ⟨S512x4096, .i1⟩
  | .hbm, ⟨55, _⟩ => ⟨S2x8x512x4096, .f32⟩
  | .hbm, ⟨56, _⟩ => ⟨S_, .f32⟩
  | .hbm, ⟨57, _⟩ => ⟨S2x8x512x4096, .f32⟩
  | .hbm, ⟨58, _⟩ => ⟨S2x8x512x4096, .f32⟩
  | .hbm, ⟨59, _⟩ => ⟨S1x1x512x4096, .i1⟩
  | .hbm, ⟨60, _⟩ => ⟨S_, .f32⟩
  | .hbm, ⟨61, _⟩ => ⟨S_, .f32⟩
  | .hbm, ⟨62, _⟩ => ⟨S2x8x512x4096, .i1⟩
  | .hbm, ⟨63, _⟩ => ⟨S2x8x512x4096, .f32⟩
  | .hbm, ⟨64, _⟩ => ⟨S2x8x512x4096, .f32⟩
  | .hbm, ⟨65, _⟩ => ⟨S_, .f32⟩
  | .hbm, ⟨66, _⟩ => ⟨S2x8x512, .f32⟩
  | .hbm, ⟨67, _⟩ => ⟨S2x8x512x1, .f32⟩
  | .hbm, ⟨68, _⟩ => ⟨S2x8x512x4096, .f32⟩
  | .hbm, ⟨69, _⟩ => ⟨S2x8x512x4096, .f32⟩
  | .hbm, ⟨70, _⟩ => ⟨S2x8x512x4096, .f32⟩
  | .hbm, ⟨71, _⟩ => ⟨S_, .i1⟩
  | .hbm, ⟨72, _⟩ => ⟨S512, .i1⟩
  | .hbm, ⟨73, _⟩ => ⟨S1x1x512x1, .i1⟩
  | .hbm, ⟨74, _⟩ => ⟨S_, .f32⟩
  | .hbm, ⟨75, _⟩ => ⟨S2x8x512, .f32⟩
  | .hbm, ⟨76, _⟩ => ⟨S2x8x512x1, .f32⟩
  | .hbm, ⟨77, _⟩ => ⟨S_, .f32⟩
  | .hbm, ⟨78, _⟩ => ⟨S_, .f32⟩
  | .hbm, ⟨79, _⟩ => ⟨S2x8x512x1, .i1⟩
  | .hbm, ⟨80, _⟩ => ⟨S2x8x512x1, .f32⟩
  | .hbm, ⟨81, _⟩ => ⟨S2x8x512x1, .f32⟩
  | .hbm, ⟨82, _⟩ => ⟨S2x8x512x4096, .f32⟩
  | .hbm, ⟨83, _⟩ => ⟨S2x8x512x4096, .f32⟩
  | .hbm, ⟨84, _⟩ => ⟨S1x1x512x1, .i1⟩
  | .hbm, ⟨85, _⟩ => ⟨S_, .f32⟩
  | .hbm, ⟨86, _⟩ => ⟨S_, .f32⟩
  | .hbm, ⟨87, _⟩ => ⟨S2x8x512x4096, .i1⟩
  | .hbm, ⟨88, _⟩ => ⟨S2x8x512x4096, .f32⟩
  | .hbm, ⟨89, _⟩ => ⟨S2x8x512x4096, .f32⟩
  | .hbm, ⟨90, _⟩ => ⟨S2x8x64x512, .f32⟩
  | .hbm, ⟨91, _⟩ => ⟨S2x512x8x64, .f32⟩
  | .hbm, ⟨92, _⟩ => ⟨S2x512x512, .f32⟩
  | .hbm, ⟨93, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Cells.lean ====
/-
The tree broadcast of the kernel's keys and values: who owns which semaphore, who pays it, and what each payment hands over.

The eight devices form a tree rooted at device 0: `0 → 1, 3, 4`, `1 → 2`, `3 → 7`, `4 → 5`, `5 → 6`. Device 0 alone fills its
scratch buffer from its blocks of `K` and `V` (eight chunks, one per head); every other device receives each chunk
from its parent, and an inner device passes it to its one child.

* Barrier semaphore of `d`: each tree neighbour of `d` signals one unit, `d` waits for all of them. A child's signal hands
  `d` the child's whole scratch buffer, which `d` is about to write; a parent's hands nothing.
* Receive semaphore `h` of `d`: the parent's transfer of chunk `h` credits it; `d` waits for it once. It hands `d` the
  chunk in `d`'s scratch buffer, holding the chunk of device 0.
* Send semaphore `(r, h)` of `d`: `d`'s transfer of chunk `h` to its `r`-th child credits it; `d` waits for it at the end.
  It hands back the share of the chunk that was lent to the transfer.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's copy and the tree's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The tree -/

/-- The children of a device, in the order it sends to them. -/
def kids : Dev nD → List (Dev nD)
  | 0 => [1, 3, 4] | 1 => [2] | 3 => [7] | 4 => [5] | 5 => [6] | _ => []

/-- The tree neighbours of a device, in the order it signals them. -/
def nbrs : Dev nD → List (Dev nD)
  | 0 => [1, 3, 4] | 1 => [0, 2] | 2 => [1] | 3 => [0, 7] | 4 => [0, 5] | 5 => [4, 6] | 6 => [5] | _ => [3]

/-- The parent of a device; device 0 has none and is given itself. -/
def par : Dev nD → Dev nD
  | 2 => 1 | 7 => 3 | 5 => 4 | 6 => 5 | _ => 0

/-- The distance from the root. -/
def depth : Dev nD → ℕ
  | 0 => 0 | 1 => 1 | 3 => 1 | 4 => 1 | 6 => 3 | _ => 2

/-- The devices that pass a chunk on to their one child. -/
def inner (c : Dev nD) : Prop := c = 1 ∨ c = 3 ∨ c = 4 ∨ c = 5

instance (c : Dev nD) : Decidable (inner c) := by unfold inner; infer_instance

/-- The one child of an inner device. -/
def kid : Dev nD → Dev nD
  | 1 => 2 | 3 => 7 | 4 => 5 | 5 => 6 | _ => 0

theorem kids_inner {c : Dev nD} : inner c → kids c = [kid c] := by revert c; decide
theorem par_kid {c : Dev nD} : inner c → par (kid c) = c := by revert c; decide
theorem kid_ne {c : Dev nD} : inner c → kid c ≠ 0 := by revert c; decide
theorem inner_ne {c : Dev nD} : inner c → c ≠ 0 := by revert c; decide

/-! ## The semaphores -/

/-- The barrier semaphore. -/
abbrev barS : Sem sig := (SemArray.scalar (sig.barrier 0 rfl) : Sems sig S_).sem

/-- The kinds of cell: `0` the barrier, `1 + 8 r + h` the send cell of row `r` and head `h`, `25 + h` the receive cell of head `h`. -/
abbrev CK : Type := Fin 33
/-- The send cell of row `r` and head `h`. -/
def sK (r : Fin 3) (h : Fin 8) : CK := ⟨1 + 8 * r.val + h.val, by omega⟩
/-- The receive cell of head `h`. -/
def rK (h : Fin 8) : CK := ⟨25 + h.val, by omega⟩

/-- The semaphore of a kind of cell. -/
def csem (k : CK) : SemLoc sig := if k.val = 0 then .reg barS else .dma ⟨5 + k.val, by have := k.isLt; show 5 + k.val < 38; omega⟩
/-- The kind of cell a semaphore is, if it is one of the tree's. -/
def keyOf : SemLoc sig → Option CK
  | .reg s => if s = barS then some 0 else none
  | .dma q => if h : 6 ≤ q.val then some ⟨q.val - 5, by have : q.val < 38 := q.isLt; omega⟩ else none

theorem keyOf_csem (k : CK) : keyOf (csem k) = some k := by revert k; decide
theorem csem_inj : Function.Injective csem := fun a b h => by
  have := congrArg keyOf h; rw [keyOf_csem, keyOf_csem] at this; exact Option.some.inj this

/-- The cell of kind `k` on device `c`. -/
abbrev kcell (ck : Dev nD × CK) : GSem nD τ sig := ((ck.1 : Thread nD τ), csem ck.2)
abbrev barCell (c : Dev nD) : GSem nD τ sig := kcell (c, 0)
abbrev sendCell (c : Dev nD) (r : Fin 3) (h : Fin 8) : GSem nD τ sig := kcell (c, sK r h)
abbrev recvCell (c : Dev nD) (h : Fin 8) : GSem nD τ sig := kcell (c, rK h)

/-! ## The chunks -/

/-- The scratch buffer the tree fills: per head, keys then values, per batch. -/
abbrev scM : Memref sig .tc .vmem S8x2x2x512x64 .bf16 := Memref.whole cc0_scratch0

theorem inb_chunk (h : Fin 8) : ∀ a, (![h.val, 0, 0, 0, 0] : Fin 5 → Nat) a + S1x2x2x512x64.size a ≤ S8x2x2x512x64.size a := by
  revert h; decide

/-- Chunk `h` of the scratch buffer: keys and values of head `h`, both batches. -/
def chM (h : Fin 8) : Memref sig .tc .vmem S2x2x512x64 .bf16 :=
  (scM.slice (Rect.unit (s := S8x2x2x512x64) ![h.val, 0, 0, 0, 0] S1x2x2x512x64.size (inb_chunk h)) (fun _ => rfl)).squeeze
    S2x2x512x64 squeezes_S1x2x2x512x64_S2x2x512x64

/-- The elements of the scratch buffer that lie in chunk `h`. -/
abbrev chS (h : Fin 8) : Finset S8x2x2x512x64.Idx := (chM h).view.set

theorem mem_chS (h : Fin 8) (i : S8x2x2x512x64.Idx) : i ∈ chS h ↔ (i 0).val = h.val := by
  have e : (chM h).view.set = (Rect.unit (s := S8x2x2x512x64) ![h.val, 0, 0, 0, 0] S1x2x2x512x64.size (inb_chunk h)).set := by
    unfold chM
    rw [Memref.set_view_squeeze]
    exact View.set_slice_whole _ _
  show i ∈ (chM h).view.set ↔ _
  refine (iff_of_eq (congrArg (i ∈ ·) e)).trans (Rect.mem_set_unit.trans ?_)
  constructor
  · intro H
    have h0 := H 0
    have e1 : (![h.val, 0, 0, 0, 0] : Fin 5 → Nat) 0 = h.val := rfl
    have e2 : S1x2x2x512x64.size 0 = 1 := rfl
    omega
  · intro H a
    have hb := (i a).isLt
    fin_cases a
    · show h.val ≤ (i 0).val ∧ (i 0).val < h.val + 1; omega
    · exact ⟨Nat.zero_le _, by show (i 1).val < 0 + 2; rw [Nat.zero_add]; exact hb⟩
    · exact ⟨Nat.zero_le _, by show (i 2).val < 0 + 2; rw [Nat.zero_add]; exact hb⟩
    · exact ⟨Nat.zero_le _, by show (i 3).val < 0 + 512; rw [Nat.zero_add]; exact hb⟩
    · exact ⟨Nat.zero_le _, by show (i 4).val < 0 + 64; rw [Nat.zero_add]; exact hb⟩

theorem chS_disj (h h' : Fin 8) (hn : h ≠ h') : Disjoint (chS h) (chS h') := by
  rw [Finset.disjoint_left]
  intro i hi hi'
  exact hn (Fin.ext (((mem_chS h i).mp hi).symm.trans ((mem_chS h' i).mp hi')))

theorem chS_cover : (Finset.univ : Finset (Fin 8)).biUnion chS = Finset.univ := by
  rw [Finset.eq_univ_iff_forall]
  intro i
  rw [Finset.mem_biUnion]
  exact ⟨⟨(i 0).val, (i 0).isLt⟩, Finset.mem_univ _, (mem_chS _ i).mpr rfl⟩

/-- The bytes of a chunk, as the credit its transfer gives. -/
abbrev N : ℕ := (chM 0).view.dmaCredit
theorem N_pos : 0 < N := View.dmaCredit_pos _ (by decide)
theorem amount_chunk (h : Fin 8) (q : DmaSem sig) : (chM h).view.amount (.dma q) = N := rfl

/-- Elements `S` of the scratch buffer of device `c` at share `q`. -/
abbrev scPts (c : Dev nD) (S : Finset S8x2x2x512x64.Idx) (q : PosShare TreeShare) (f : S8x2x2x512x64.Idx → Elt F .bf16) : sProp 𝕄 :=
  ((c : Thread nD τ).loc cc0_scratch0) ↦[S]{q} f

/-- A chunk copied from contents `kv` holds `kv` where it landed. -/
theorem landed_eq (c c' : Dev nD) (h : Fin 8) (q : PosShare TreeShare) (kv fd : S8x2x2x512x64.Idx → Elt F .bf16) :
    (((chM h).view.loc (c : Thread nD τ)) ↦[(chM h).view.set]{q} (chM h).view.write (Elt F) fd ((chM h).view.read (Elt F) kv) Finset.univ : sProp 𝕄)
      = scPts c (chS h) q kv := by
  refine pointsTo_congr fun i hi => ?_
  refine (congrFun (View.write_read_eq_piecewise (Val := Elt F) (v := (chM h).view) fd kv Finset.univ) i).trans ?_
  exact Finset.piecewise_eq_of_mem _ _ _ hi

/-! ## The shares of a chunk -/

/-- The share of a chunk that device `c` lends to its `r`-th transfer of it. -/
def lendQ (c : Dev nD) (r : Fin 3) : PosShare TreeShare :=
  if c = 0 then (match r with | 0 => fullShare.left | 1 => fullShare.right.left | 2 => fullShare.right.right.left) else fullShare.left

/-- The share of a chunk that device `c` keeps while its transfers of it are in flight. -/
def keepQ (c : Dev nD) : PosShare TreeShare :=
  if c = 0 then fullShare.right.right.right else if inner c then fullShare.right else fullShare

/-! ## The schedule -/

/-- Who pays a cell. -/
def dut (ck : Dev nD × CK) : Finset (Dev nD) :=
  if ck.2.val = 0 then (nbrs ck.1).toFinset
  else if ck.2.val < 25 then (if (ck.2.val - 1) / 8 < (kids ck.1).length then {ck.1} else ∅)
  else (if ck.1 = 0 then ∅ else {par ck.1})

/-- What a payment by `d` hands the owner of cell `ck`, the whole tree's chunks being those of `kv`. -/
def pay (kv : S8x2x2x512x64.Idx → Elt F .bf16) (ck : Dev nD × CK) (d : Dev nD) : sProp 𝕄 :=
  if ck.2.val = 0 then (if d ∈ kids ck.1 then iprop(∃ f, scPts d Finset.univ fullShare f) else iprop(emp))
  else if ck.2.val < 25 then
    scPts ck.1 (chS ⟨(ck.2.val - 1) % 8, Nat.mod_lt _ (by decide)⟩) (lendQ ck.1 ⟨(ck.2.val - 1) / 8 % 3, Nat.mod_lt _ (by decide)⟩) kv
  else scPts ck.1 (chS ⟨(ck.2.val - 25) % 8, Nat.mod_lt _ (by decide)⟩) fullShare kv

instance pay_storable (kv : S8x2x2x512x64.Idx → Elt F .bf16) (ck : Dev nD × CK) (d : Dev nD) :
    BI.Storable (upEmb : UEmb _ 𝕄) (pay kv ck d) := by
  unfold pay
  (repeat' split) <;> infer_instance

/-- One round, round 0. -/
def Rd (kv : S8x2x2x512x64.Idx → Elt F .bf16) : Rounds.Schedule (GSem nD τ sig) (Dev nD) 𝕄 where
  duties g r := if r = 0 ∧ g.1.2 = .tc then (match keyOf g.2 with | some k => dut (g.1.1, k) | none => ∅) else ∅
  unitless _ := False
  amount g _ _ := if keyOf g.2 = some 0 then 1 else N
  payload g _ d := match keyOf g.2 with | some k => pay kv (g.1.1, k) d | none => iprop(emp)
  amount_pos g _ _ _ := by
    by_cases h : keyOf g.2 = some 0
    · rw [if_pos h]; exact Nat.one_pos
    · rw [if_neg h]; exact N_pos

instance Rd_storable (kv : S8x2x2x512x64.Idx → Elt F .bf16) (g : GSem nD τ sig) (r : ℕ) (d : Dev nD) :
    BI.Storable (upEmb : UEmb _ 𝕄) ((Rd kv).payload g r d) := by
  show BI.Storable upEmb (match keyOf g.2 with | some k => pay kv (g.1.1, k) d | none => iprop(emp))
  split <;> infer_instance

section Tables
variable (kv : S8x2x2x512x64.Idx → Elt F .bf16) (c : Dev nD)

theorem duties_cell (ck : Dev nD × CK) : (Rd kv).duties (kcell ck) 0 = dut ck := by
  show (if (0 : ℕ) = 0 ∧ (kcell ck).1.2 = .tc then (match keyOf (csem ck.2) with | some k => dut (ck.1, k) | none => ∅) else ∅) = _
  rw [if_pos ⟨rfl, rfl⟩, keyOf_csem]

theorem duties_later (g : GSem nD τ sig) : ∀ r, 1 ≤ r → (Rd kv).duties g r = ∅ :=
  fun r hr => by dsimp only [Rd]; rw [if_neg fun h => by omega]

theorem payload_cell (ck : Dev nD × CK) (r : ℕ) (d : Dev nD) : (Rd kv).payload (kcell ck) r d = pay kv ck d := by
  show (match keyOf (csem ck.2) with | some k => pay kv (ck.1, k) d | none => iprop(emp)) = _
  rw [keyOf_csem]

theorem amount_bar (r : ℕ) (d : Dev nD) : (Rd kv).amount (barCell c) r d = 1 := by
  show (if keyOf (csem 0) = some 0 then 1 else N) = 1
  rw [keyOf_csem, if_pos rfl]

theorem amount_dma (k : CK) (hk : k ≠ 0) (r : ℕ) (d : Dev nD) : (Rd kv).amount (kcell (c, k)) r d = N := by
  show (if keyOf (csem k) = some 0 then 1 else N) = N
  rw [keyOf_csem, if_neg fun h => hk (Option.some.inj h)]

theorem sK_ne (r : Fin 3) (h : Fin 8) : sK r h ≠ 0 := by revert r h; decide
theorem rK_ne (h : Fin 8) : rK h ≠ 0 := by revert h; decide

theorem dut_bar : dut (c, 0) = (nbrs c).toFinset := if_pos rfl
theorem dut_recv (h : Fin 8) (hc : c ≠ 0) : dut (c, rK h) = {par c} := by revert c h; decide
theorem dut_recv_root (h : Fin 8) : dut (0, rK h) = ∅ := by revert h; decide
theorem dut_send_root (r : Fin 3) (h : Fin 8) : dut (0, sK r h) = {0} := by revert r h; decide
theorem dut_send_inner (h : Fin 8) (hc : inner c) : dut (c, sK 0 h) = {c} := by revert c h; decide

theorem pay_bar (d : Dev nD) : pay (F := F) kv (c, 0) d = if d ∈ kids c then iprop(∃ f, scPts d Finset.univ fullShare f) else iprop(emp) := if_pos rfl
theorem pay_send (r : Fin 3) (h : Fin 8) (d : Dev nD) : pay kv (c, sK r h) d = scPts c (chS h) (lendQ c r) kv := by
  have h0 : (sK r h).val = 1 + 8 * r.val + h.val := rfl
  unfold pay
  have e1 : (⟨((sK r h).val - 1) % 8, Nat.mod_lt _ (by decide)⟩ : Fin 8) = h := Fin.ext (by show ((sK r h).val - 1) % 8 = h.val; omega)
  have e2 : (⟨((sK r h).val - 1) / 8 % 3, Nat.mod_lt _ (by decide)⟩ : Fin 3) = r := Fin.ext (by show ((sK r h).val - 1) / 8 % 3 = r.val; omega)
  rw [if_neg (by show ¬ (sK r h).val = 0; omega), if_pos (by show (sK r h).val < 25; omega)]
  show scPts c (chS ⟨((sK r h).val - 1) % 8, _⟩) (lendQ c ⟨((sK r h).val - 1) / 8 % 3, _⟩) kv = _
  rw [e1, e2]
theorem pay_recv (h : Fin 8) (d : Dev nD) : pay kv (c, rK h) d = scPts c (chS h) fullShare kv := by
  have h0 : (rK h).val = 25 + h.val := rfl
  unfold pay
  rw [if_neg (by show ¬ (rK h).val = 0; omega), if_neg (by show ¬ (rK h).val < 25; omega)]
  have e1 : (⟨((rK h).val - 25) % 8, Nat.mod_lt _ (by decide)⟩ : Fin 8) = h := Fin.ext (by show ((rK h).val - 25) % 8 = h.val; omega)
  show scPts c (chS ⟨((rK h).val - 25) % 8, _⟩) fullShare kv = _
  rw [e1]

theorem expect_bar : (Rd kv).expect (barCell c) 0 = (nbrs c).length := by
  unfold Schedule.expect Schedule.amountOf
  rw [duties_cell, dut_bar, Finset.sum_congr rfl fun d _ => amount_bar kv c 0 d, Finset.sum_const, smul_eq_mul, mul_one]
  revert c; decide

theorem expect_one (k : CK) (hk : k ≠ 0) {d : Dev nD} (hd : dut (c, k) = {d}) : (Rd kv).expect (kcell (c, k)) 0 = N := by
  unfold Schedule.expect Schedule.amountOf
  rw [duties_cell, hd, Finset.sum_singleton, amount_dma kv c k hk]

theorem rest_one (k : CK) {d : Dev nD} (hd : dut (c, k) = {d}) :
    bigSep ((Rd kv).duties (kcell (c, k)) 0 \ ∅) (fun d => (Rd kv).payload (kcell (c, k)) 0 d) = pay kv (c, k) d := by
  rw [Finset.sdiff_empty, duties_cell, hd, bigSep_singleton, payload_cell]

/-- What the whole barrier round hands its owner: each child's scratch buffer. -/
theorem rest_bar : bigSep ((Rd kv).duties (barCell c) 0 \ ∅) (fun d => (Rd kv).payload (barCell c) 0 d)
    = bigSep (nbrs c).toFinset (fun d => if d ∈ kids c then iprop(∃ f, scPts d Finset.univ fullShare f) else iprop(emp)) := by
  rw [Finset.sdiff_empty, duties_cell, dut_bar]
  exact congrArg _ (funext fun d => by rw [payload_cell, pay_bar])

end Tables

/-! ## What each device owes -/

/-- The transfers of a device from head `h` on: to each child the credit of a chunk. -/
def dues (c : Dev nD) (h : ℕ) : List (GSem nD τ sig × ℕ) :=
  ((List.finRange 8).drop h).flatMap fun h => (kids c).map fun d => (recvCell d h, N)

/-- Everything a device pays its neighbours, in the order it pays. -/
def pays (c : Dev nD) : List (GSem nD τ sig × ℕ) := (nbrs c).map (fun d => (barCell d, 1)) ++ dues c 0

/-- The tally of a list of payments, the first payment the last summand. -/
def owe : List (GSem nD τ sig × ℕ) → CellTallies nD τ sig Unit
  | [] => 0
  | (g, n) :: l => owe l + tallyAt g () n

theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    obtain ⟨g', n⟩ := p
    have h : 0 < (owe l + tallyAt g' () n) g u := h
    rw [Pi.add_apply, Finsupp.add_apply, tallyAt_apply] at h
    by_cases hg : g = g' ∧ u = ()
    · exact ⟨(g', n), List.mem_cons_self, hg.1.symm⟩
    · rw [if_neg hg, Nat.add_zero] at h
      obtain ⟨p, hp, e⟩ := ih h
      exact ⟨p, List.mem_cons_of_mem _ hp, e⟩

theorem dues_inner {c : Dev nD} (hc : inner c) (h : Fin 8) :
    dues c h.val = (recvCell (kid c) h, N) :: dues c (h.val + 1) := by
  unfold dues
  rw [kids_inner hc]
  fin_cases h <;> rfl

theorem dues_leaf {c : Dev nD} (h0 : c ≠ 0) (hc : ¬ inner c) (h : ℕ) : dues c h = [] := by
  have hk : kids c = [] := by revert c; decide
  unfold dues
  rw [hk]
  exact List.flatMap_eq_nil_iff.mpr fun _ _ => rfl

theorem dues_end (c : Dev nD) : dues c 8 = [] := rfl

theorem mem_dues {c : Dev nD} {h : ℕ} {p : GSem nD τ sig × ℕ} (hp : p ∈ dues c h) : ∃ d ∈ kids c, ∃ h', p = (recvCell d h', N) := by
  unfold dues at hp
  rw [List.mem_flatMap] at hp
  obtain ⟨h', -, hp⟩ := hp
  rw [List.mem_map] at hp
  obtain ⟨d, hd, rfl⟩ := hp
  exact ⟨d, hd, h', rfl⟩

theorem mem_pays {c : Dev nD} {p : GSem nD τ sig × ℕ} (hp : p ∈ pays c) :
    (∃ d, p = (barCell d, 1)) ∨ ∃ d ∈ kids c, ∃ h', p = (recvCell d h', N) := by
  unfold pays at hp
  rcases List.mem_append.mp hp with hp | hp
  · rw [List.mem_map] at hp
    obtain ⟨d, -, rfl⟩ := hp
    exact .inl ⟨d, rfl⟩
  · exact .inr (mem_dues hp)

/-! ## Levels: a device waits only below what it still owes -/

def L (g : GSem nD τ sig) : Finset Unit := if g.1.2 = .tc then {()} else ∅

/-- Barrier cells at 1, the receive cells of a device one above its distance from the root, everything else at 0. -/
def lv (g : GSem nD τ sig) (_ : Unit) : ℕ :=
  match keyOf g.2 with
  | some k => if k.val = 0 then 1 else if k.val < 25 then 0 else depth g.1.1 + 1
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := by unfold lv; rw [keyOf_csem]; rfl
theorem lv_recv (d : Dev nD) (h : Fin 8) : lv (recvCell d h) () = depth d + 1 := by
  unfold lv; rw [keyOf_csem]
  show (if (rK h).val = 0 then 1 else if (rK h).val < 25 then 0 else depth d + 1) = _
  have h0 : (rK h).val = 25 + h.val := rfl
  rw [if_neg (by omega), if_neg (by omega)]
theorem lv_send (d : Dev nD) (r : Fin 3) (h : Fin 8) : lv (sendCell d r h) () = 0 := by
  unfold lv; rw [keyOf_csem]
  show (if (sK r h).val = 0 then 1 else if (sK r h).val < 25 then 0 else depth d + 1) = _
  have h0 : (sK r h).val = 1 + 8 * r.val + h.val := rfl
  rw [if_neg (by omega), if_pos (by omega)]

theorem depth_kid {c d : Dev nD} (h : d ∈ kids c) : depth d = depth c + 1 := by revert c d; decide

/-- A device that owes at least the cells of `l`, all of them on TensorCores and above level `n`, may wait on a cell at most there. -/
theorem mayWait_list (c : Dev nD) (sm : SemLoc sig) (l : List (GSem nD τ sig × ℕ)) (n : ℕ)
    (hs : lv ((c : Thread nD τ), sm) () ≤ n) (hl : ∀ p ∈ l, p.1.1.2 = .tc ∧ n < lv p.1 ()) :
    (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact hs)
    (fun g u hg => by
      obtain ⟨p, hp, rfl⟩ := owe_pos hg
      exact (hl p hp).2)

/-- Before its barrier wait has returned a device may wait on anything at level 0. -/
theorem mayWait_start (c : Dev nD) (sm : SemLoc sig) (h : lv ((c : Thread nD τ), sm) () = 0) :
    (levAts L lv : sProp 𝕄) ⊢ MayWait (c : Thread nD τ) sm () (owe (pays c)) :=
  mayWait_list c sm _ 0 (le_of_eq h) fun p hp => by
    rcases mem_pays hp with ⟨d, rfl⟩ | ⟨d, hd, h', rfl⟩
    · exact ⟨rfl, by rw [lv_bar]; decide⟩
    · exact ⟨rfl, by rw [lv_recv]; omega⟩

/-- At its barrier wait a device owes its children's receive credits only. -/
theorem mayWait_bar (c : Dev nD) : (levAts L lv : sProp 𝕄) ⊢ MayWait (c : Thread nD τ) (csem 0) () (owe (dues c 0)) :=
  mayWait_list c _ _ 1 (le_of_eq (lv_bar c)) fun p hp => by
    obtain ⟨d, hd, h', rfl⟩ := mem_dues hp
    exact ⟨rfl, by rw [lv_recv, depth_kid hd]; omega⟩

/-- At a receive wait likewise. -/
theorem mayWait_recv (c : Dev nD) (h : Fin 8) (n : ℕ) : (levAts L lv : sProp 𝕄) ⊢ MayWait (c : Thread nD τ) (csem (rK h)) () (owe (dues c n)) :=
  mayWait_list c _ _ (depth c + 1) (le_of_eq (lv_recv c h)) fun p hp => by
    obtain ⟨d, hd, h', rfl⟩ := mem_dues hp
    exact ⟨rfl, by rw [lv_recv, depth_kid hd]; omega⟩

end Cert.KernelIdeal.Tree
-- ==== Proof.Steps.lean ====
/-
One effect of the kernel at a time: a signal, the barrier wait, a transfer to a child, a receive wait, the wait for a
transfer's own end, the closing of a cell.
-/
module

public import proofs.«01_k».proof.Proof.Cells

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a program of device `c`'s TensorCore. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_done (c : Dev nD) {α : Type} (a : α) (Q : α → sProp 𝕄) : Q a ⊢ WP c (.ret a) Q := by
  unfold WP
  rw [wp_ret]
  iintro H
  imodintro
  iexact H

/-- What device `c` owes, at whatever it has waited for. -/
def Ow (c : Dev nD) (l : List (GSem nD τ sig × ℕ)) : sProp 𝕄 := iprop(∃ W, owes (c : Thread nD τ) (owe l) W)

/-- Every cell's invariant, and that every cell has reached round 0. -/
def records (kv : S8x2x2x512x64.Idx → Elt F .bf16) (K : Dev nD × CK → ℕ) : sProp 𝕄 :=
  iprop(bigSep Finset.univ (fun ck => cellInv ER (Rd kv) (K ck) (kcell ck)) ∗ bigSep Finset.univ (fun ck => reached ER (kcell ck) 0))

instance records_persistent (kv : S8x2x2x512x64.Idx → Elt F .bf16) (K : Dev nD × CK → ℕ) : BI.Persistent (records kv K) := by
  unfold records; infer_instance

variable {kv : S8x2x2x512x64.Idx → Elt F .bf16} {K : Dev nD × CK → ℕ}

/-- One member of a conjunction. -/
theorem pick {I : Type} [DecidableEq I] {s : Finset I} {i : I} (h : i ∈ s) (Φ : I → sProp 𝕄) : (bigSep s Φ : sProp 𝕄) ⊢ Φ i :=
  bigSep_elim h

theorem record_inv (ck : Dev nD × CK) : records kv K ⊢ cellInv ER (Rd kv) (K ck) (kcell ck) := by
  unfold records
  iintro ⟨H, -⟩
  iapply (pick (Finset.mem_univ ck) (fun ck => cellInv ER (Rd kv) (K ck) (kcell ck))) $$ H

theorem record_reached (ck : Dev nD × CK) : records kv K ⊢ (reached ER (kcell ck) 0 : sProp 𝕄) := by
  unfold records
  iintro ⟨-, H⟩
  iapply (pick (Finset.mem_univ ck) (fun ck => reached ER (kcell ck) 0)) $$ H

/-- A signal to a tree neighbour's barrier cell. -/
theorem step_signal (c d n : Dev nD) (hn : n = d) (hd : c ∈ nbrs d) (l : List (GSem nD τ sig × ℕ)) {k' : ℤ} (hk' : k' = ((1 : ℕ) : ℤ))
    {α : Type} {Q : α → sProp 𝕄} {k : PUnit → Prog (TpuEff nD τ sig (Elt F) Λ₀ .tc) α} :
    iprop(records kv K ∗ Ow c ((barCell d, 1) :: l) ∗ dutyTok ER (barCell d) 0 c ∗ pay kv (d, 0) c)
      ⊢ iprop((Ow c l -∗ WP c (k ⟨⟩) Q) -∗ WP c (.op (.semSignal (Dev.tc n : Thread nD τ) barS k') k) Q) := by
  subst hn hk'
  unfold Ow
  iintro ⟨#HR, ⟨%W, HO⟩, Ht, Hp⟩ Hk
  ihave HI := (record_inv (kv := kv) (K := K) (n, 0)) $$ HR
  ihave Hr := (record_reached (kv := kv) (K := K) (n, 0)) $$ HR
  iapply (Rounds.wp_signal 𝒱₀ ER (Rd kv) (c : Thread nD τ) none (dst := (n : Thread nD τ)) (κ := K (n, 0)) (sem := barS)
      (d := c) (r := 0) (by rw [show (((n : Thread nD τ), SemLoc.reg barS) : GSem nD τ sig) = barCell n from rfl, duties_cell, dut_bar]; exact List.mem_toFinset.mpr hd)
      (amount_bar kv n 0 c) () (owe l) rfl (W := W)) $$ [HI HO Ht Hp Hr]
  · isplitl [HI]; · iexact HI
    isplitl [HO]; · iexact HO
    isplitl [Ht]; · iexact Ht
    isplitl [Hp]; · rw [show (((n : Thread nD τ), SemLoc.reg barS) : GSem nD τ sig) = kcell (n, 0) from rfl, payload_cell]; iexact Hp
    iexact Hr
  iintro HO
  iapply Hk
  iexists W
  iexact HO

/-- The barrier wait: every child's scratch buffer comes with it. -/
theorem step_barwait (c : Dev nD) {k' : ℤ} (hk' : k' = ((nbrs c).length : ℤ))
    {α : Type} {Q : α → sProp 𝕄} {k : PUnit → Prog (TpuEff nD τ sig (Elt F) Λ₀ .tc) α} :
    iprop(records kv K ∗ levAts L lv ∗ cred (tallyAt (barCell c) () (nbrs c).length) ∗ Ow c (dues c 0) ∗ atPos ER (barCell c) 0 ∅ 0)
      ⊢ iprop(((Ow c (dues c 0) ∗ atPos ER (barCell c) 1 ∅ 0
            ∗ bigSep (nbrs c).toFinset (fun d => if d ∈ kids c then iprop(∃ f, scPts d Finset.univ fullShare f) else iprop(emp)))
          -∗ WP c (k ⟨⟩) Q) -∗ WP c (.op (.semWait barS k') k) Q) := by
  subst hk'
  unfold Ow
  iintro ⟨#HR, #Hlev, Hc, ⟨%W, HO⟩, Hat⟩ Hk
  ihave HI := (record_inv (kv := kv) (K := K) (c, 0)) $$ HR
  iapply (Rounds.wp_wait_rest_token 𝒱₀ ER (Rd kv) (c : Thread nD τ) none (κ := K (c, 0))
      (wpE_semWait_eq 𝒱₀ (c : Thread nD τ) none Set.univ) (Set.mem_univ _) () (O := owe (dues c 0)) (W := W) (R := 0) (m := 0) (T := ∅)
      ((Nat.zero_add _).trans (expect_bar kv c).symm)) $$ [HI Hc HO Hat]
  · isplitl [HI]; · iexact HI
    isplitl [Hc]; · iexact Hc
    isplitl [HO]; · iexact HO
    isplitr; · iapply (mayWait_bar c); iexact Hlev
    iexact Hat
  iintro ⟨HO, Hat, -, Hpay⟩
  ihave Hp := (Entails.of_eq (show bigSep ((Rd kv).duties ((c : Thread nD τ), .reg barS) 0 \ ∅) (fun d => (Rd kv).payload ((c : Thread nD τ), .reg barS) 0 d) = _
    from rest_bar kv c)) $$ Hpay
  iapply Hk
  isplitl [HO]; · iexists _; iexact HO
  isplitl [Hat]; · iexact Hat
  iexact Hp

/-- A wait on a DMA cell with one duty: what the payment carries comes with it. -/
theorem step_wait (c d : Dev nD) (ck : CK) (hk : ck ≠ 0) (hd : dut (c, ck) = {d}) (l : List (GSem nD τ sig × ℕ))
    (hlev : (levAts L lv : sProp 𝕄) ⊢ MayWait (c : Thread nD τ) (csem ck) () (owe l)) {h : Fin 8} {sp : Space} {s : Shape} {e : EltTy}
    {sm : DmaSem sig} (hsm : csem ck = .dma sm) {src : Memref sig .tc sp s e} {dst : Memref sig .tc .vmem S2x2x512x64 .bf16} (hdst : dst = chM h)
    {α : Type} {Q : α → sProp 𝕄} {k : PUnit → Prog (TpuEff nD τ sig (Elt F) Λ₀ .tc) α} {w1 : src.view.WordExact} {w2 : dst.view.WordExact} :
    iprop(records kv K ∗ levAts L lv ∗ cred (tallyAt (kcell (c, ck)) () N) ∗ Ow c l ∗ atPos ER (kcell (c, ck)) 0 ∅ 0)
      ⊢ iprop(((Ow c l ∗ atPos ER (kcell (c, ck)) 1 ∅ 0 ∗ pay kv (c, ck) d) -∗ WP c (k ⟨⟩) Q)
          -∗ WP c (.op (.waitDma2 sm src dst w1 w2) k) Q) := by
  subst hdst
  unfold Ow
  iintro ⟨#HR, #Hlev, Hc, ⟨%W, HO⟩, Hat⟩ Hk
  ihave HI := (record_inv (kv := kv) (K := K) (c, ck)) $$ HR
  iapply (Rounds.wp_wait_rest_token 𝒱₀ ER (Rd kv) (c : Thread nD τ) none (κ := K (c, ck)) (sm := csem ck) (k' := N)
      (fun Kt => by rw [hsm]; exact wpE_waitDma2_eq 𝒱₀ (c : Thread nD τ) none Set.univ Kt) (Set.mem_univ _) () (O := owe l) (W := W) (R := 0) (m := 0) (T := ∅)
      ((Nat.zero_add _).trans (expect_one kv c ck hk hd).symm)) $$ [HI Hc HO Hat]
  · isplitl [HI]; · iexact HI
    isplitl [Hc]; · iexact Hc
    isplitl [HO]; · iexact HO
    isplitr; · iapply hlev; iexact Hlev
    iexact Hat
  iintro ⟨HO, Hat, -, Hpay⟩
  ihave Hp := (Entails.of_eq (rest_one kv c ck hd)) $$ Hpay
  iapply Hk
  isplitl [HO]; · iexists _; iexact HO
  isplitl [Hat]; · iexact Hat
  iexact Hp

/-- A transfer of chunk `h` to a child `d`, the `r`-th of device `c`. -/
theorem step_send (c d n : Dev nD) (hn : n = d) (hd0 : d ≠ 0) (hp : par d = c) (r : Fin 3) (h : Fin 8) (hd : dut (c, sK r h) = {c})
    (l : List (GSem nD τ sig × ℕ))
    {src dst : Memref sig .tc .vmem S2x2x512x64 .bf16} (hsrc : src = chM h) (hdst : dst = chM h)
    {sS sR : DmaSem sig} (hS : SemLoc.dma sS = csem (sK r h)) (hR : SemLoc.dma sR = csem (rK h))
    {hsc : (dst : Memref sig (Dev.tc n : Thread nD τ).2.kind .vmem S2x2x512x64 .bf16).view.ref.isScScratch = false}
    {w1 : src.view.WordExact} {w2 : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records kv K ∗ scPts c (chS h) (lendQ c r) kv ∗ (∃ f, scPts d (chS h) fullShare f) ∗ Ow c ((recvCell d h, N) :: l)
        ∗ dutyTok ER (sendCell c r h) 0 c ∗ dutyTok ER (recvCell d h) 0 c)
      ⊢ iprop(((cred (tallyAt (sendCell c r h) () N) ∗ Ow c l) -∗ WP c (k ⟨⟩) Q)
          -∗ WP c (.op (.enqueueDma src (.remote (Dev.tc n : Thread nD τ) dst (.dma sS) hsc) (.dma sR) w1 w2 hsem) k) Q) := by
  subst hn hsrc hdst
  unfold Ow
  iintro ⟨#HR, Hs, ⟨%f, Hd⟩, ⟨%W, HO⟩, HtS, HtR⟩ Hk
  ihave HI1 := (record_inv (kv := kv) (K := K) (c, sK r h)) $$ HR
  ihave HI2 := (record_inv (kv := kv) (K := K) (n, rK h)) $$ HR
  ihave Hr1 := (record_reached (kv := kv) (K := K) (c, sK r h)) $$ HR
  ihave Hr2 := (record_reached (kv := kv) (K := K) (n, rK h)) $$ HR
  have e1 : (((c : Thread nD τ), SemLoc.dma sS) : GSem nD τ sig) = kcell (c, sK r h) := by rw [hS]
  have e2 : (((n : Thread nD τ), SemLoc.dma sR) : GSem nD τ sig) = kcell (n, rK h) := by rw [hR]
  iapply (Rounds.wp_send_pointsTo 𝒱₀ ER (Rd kv) (c : Thread nD τ) none (κ₁ := K (c, sK r h)) (κ₂ := K (n, rK h)) (c' := (Dev.tc n : Thread nD τ))
      (src := chM h) (dst := chM h) (q := lendQ c r) (fs := kv) (fd := f)
      (r₁ := 0) (r₂ := 0) (d₁ := c) (d₂ := c)
      (by rw [e1, duties_cell, hd]; exact Finset.mem_singleton_self _)
      (by rw [e2, duties_cell, dut_recv n h hd0, hp]; exact Finset.mem_singleton_self _)
      () () N (amount_chunk h _)
      (by rw [e1]; exact amount_dma kv c _ (sK_ne r h) 0 c) (by rw [e2]; exact amount_dma kv n _ (rK_ne h) 0 c)
      (O₀ := owe ((recvCell n h, N) :: l)) (owe l) (by rw [e2]; rfl) (W := W)
      (by rw [e1, payload_cell, pay_send]; exact BI.Entails.refl _)
      (by rw [e2, payload_cell, pay_recv]; exact Entails.of_eq (landed_eq n n h fullShare kv f))) $$ [HI1 HI2 Hs Hd HO HtS Hr1 HtR Hr2]
  · rw [e1, e2]
    isplitl [HI1]; · iexact HI1
    isplitl [HI2]; · iexact HI2
    isplitl [Hs]; · iexact Hs
    isplitl [Hd]; · iexact Hd
    isplitl [HO]; · iexact HO
    isplitl [HtS]; · iexact HtS
    isplitl [Hr1]; · iexact Hr1
    isplitl [HtR]; · iexact HtR
    iexact Hr2
  iintro ⟨Hc, HO⟩
  iapply Hk
  isplitl [Hc]; · rw [e1]; iexact Hc
  iexists W
  iexact HO

/-- A cell whose rounds are over, at round `R`, gives its counter back at zero. -/
theorem step_close (ck : Dev nD × CK) (R : ℕ) (hR : R = 1 ∨ R = 0 ∧ dut ck = ∅) :
    iprop(records kv K ∗ atPos ER (kcell ck) R ∅ 0) ⊢ (iprop(|={Set.univ}=> semVal (kcell ck) 0) : sProp 𝕄) := by
  iintro ⟨#HR, Hat⟩
  ihave HI := (record_inv (kv := kv) (K := K) ck) $$ HR
  iapply (Rounds.cell_close ER (Rd kv) (Set.mem_univ (K ck)) (fun h => h) (R := R) (fun r hr => by
    rcases hR with rfl | ⟨rfl, h0⟩
    · exact duties_later kv _ r hr
    · rcases Nat.eq_zero_or_pos r with rfl | h
      · rw [duties_cell, h0]
      · exact duties_later kv _ r h))
  isplitl [HI]; · iexact HI
  iexact Hat

end Cert.KernelIdeal.Tree
-- ==== Proof.Entry.lean ====
/-
The entry handshake: each device signals the barrier semaphores of its tree neighbours and waits for theirs.
-/
module

public import proofs.«01_k».proof.Proof.Steps

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! ## The conditions on the device's place -/

theorem cond1 (c : Dev nD) : k0_cond1 c = 1#1 ↔ c = 0 := by revert c; decide +kernel
theorem cond2 (c : Dev nD) : k0_cond2 c = 1#1 ↔ c = 1 := by revert c; decide +kernel
theorem cond3 (c : Dev nD) : k0_cond3 c = 1#1 ↔ c = 2 := by revert c; decide +kernel
theorem cond4 (c : Dev nD) : k0_cond4 c = 1#1 ↔ c = 3 := by revert c; decide +kernel
theorem cond5 (c : Dev nD) : k0_cond5 c = 1#1 ↔ c = 4 := by revert c; decide +kernel
theorem cond6 (c : Dev nD) : k0_cond6 c = 1#1 ↔ c = 5 := by revert c; decide +kernel
theorem cond7 (c : Dev nD) : k0_cond7 c = 1#1 ↔ c = 6 := by revert c; decide +kernel
theorem cond8 (c : Dev nD) : k0_cond8 c = 1#1 ↔ c = 7 := by revert c; decide +kernel

/-- The place of a device in the mesh as the kernel computes it. -/
abbrev place (c : Dev nD) : BitVec 32 := Scalar.remsi (Scalar.divsi (Dev.word c) 1#32) 8#32

/-! ## The signals and the wait -/

/-- One unit to each of the listed devices' barrier semaphores, then `k`. -/
def sigs {α : Type} : List (Dev nD) → Prog (TpuEff nD τ sig (Elt F) Λ₀ .tc) α → Prog (TpuEff nD τ sig (Elt F) Λ₀ .tc) α
  | [], k => k
  | d :: l, k => .op (.semSignal (Dev.tc d : Thread nD τ) barS (1#32).toInt) fun _ => sigs l k

theorem wp_sigs (c : Dev nD) {α : Type} {Q : α → sProp 𝕄} (k : Prog (TpuEff nD τ sig (Elt F) Λ₀ .tc) α) (L' : List (GSem nD τ sig × ℕ)) :
    ∀ l : List (Dev nD), (∀ d ∈ l, c ∈ nbrs d) →
      iprop(records kv K ∗ Ow c (l.map (fun d => (barCell d, 1)) ++ L') ∗ bigSepL l (fun d => iprop(dutyTok ER (barCell d) 0 c ∗ pay kv (d, 0) c))
          ∗ (Ow c L' -∗ WP c k Q))
        ⊢ WP c (sigs l k) Q
  | [], _ => by
    unfold sigs
    iintro ⟨-, HO, -, Hk⟩
    iapply Hk
    iexact HO
  | d :: l, hl => by
    unfold sigs
    rw [List.map_cons, List.cons_append, show bigSepL (d :: l) (fun d => iprop(dutyTok ER (barCell d) 0 c ∗ pay kv (d, 0) c))
      = iprop((dutyTok ER (barCell d) 0 c ∗ pay kv (d, 0) c) ∗ bigSepL l (fun d => iprop(dutyTok ER (barCell d) 0 c ∗ pay kv (d, 0) c))) from bigSepL_cons ..]
    iintro ⟨#HR, HO, ⟨⟨Ht, Hp⟩, Hl⟩, Hk⟩
    iapply (step_signal (kv := kv) (K := K) c d d rfl (hl d List.mem_cons_self) _ (k' := (1#32).toInt) (by decide)) $$ [HO Ht Hp]
    · isplitr; · iexact HR
      isplitl [HO]; · iexact HO
      isplitl [Ht]; · iexact Ht
      iexact Hp
    iintro HO
    iapply (wp_sigs c k L' l fun d' hd' => hl d' (List.mem_cons_of_mem _ hd'))
    isplitr; · iexact HR
    isplitl [HO]; · iexact HO
    isplitl [Hl]; · iexact Hl
    iexact Hk

/-- What the barrier phase of device `c` starts from. -/
def barPre (kv : S8x2x2x512x64.Idx → Elt F .bf16) (c : Dev nD) : sProp 𝕄 :=
  iprop(Ow c (pays c) ∗ bigSepL (nbrs c) (fun d => iprop(dutyTok ER (barCell d) 0 c ∗ pay kv (d, 0) c))
    ∗ cred (tallyAt (barCell c) () (nbrs c).length) ∗ atPos ER (barCell c) 0 ∅ 0)

/-- What it leaves: its children's scratch buffers. -/
def barPost (c : Dev nD) : sProp 𝕄 :=
  iprop(Ow c (dues c 0) ∗ atPos ER (barCell c) 1 ∅ 0
    ∗ bigSep (nbrs c).toFinset (fun d => if d ∈ kids c then iprop(∃ f, scPts d Finset.univ fullShare f) else iprop(emp)))

theorem nbrs_symm (c d : Dev nD) : d ∈ nbrs c → c ∈ nbrs d := by revert c d; decide

theorem wp_barrier (c : Dev nD) {α : Type} {Q : α → sProp 𝕄} (k : PUnit → Prog (TpuEff nD τ sig (Elt F) Λ₀ .tc) α) {n : ℤ} (hn : n = ((nbrs c).length : ℤ)) :
    iprop(records kv K ∗ levAts L lv ∗ barPre kv c ∗ (barPost c -∗ WP c (k ⟨⟩) Q)) ⊢ WP c (sigs (nbrs c) (.op (.semWait barS n) k)) Q := by
  unfold barPre
  iintro ⟨#HR, #Hlev, ⟨HO, Hl, Hc, Hat⟩, Hk⟩
  iapply (wp_sigs (kv := kv) (K := K) c _ (dues c 0) (nbrs c) fun d hd => nbrs_symm c d hd)
  isplitr; · iexact HR
  isplitl [HO]; · unfold pays; iexact HO
  isplitl [Hl]; · iexact Hl
  iintro HO
  iapply (step_barwait (kv := kv) (K := K) c hn) $$ [HO Hc Hat]
  · isplitr; · iexact HR
    isplitr; · iexact Hlev
    isplitl [Hc]; · iexact Hc
    isplitl [HO]; · iexact HO
    iexact Hat
  iintro ⟨HO, Hat, Hb⟩
  iapply Hk
  unfold barPost
  isplitl [HO]; · iexact HO
  isplitl [Hat]; · iexact Hat
  iexact Hb

/-- One of the eight branches on the device's place: `i`'s own, skipped by every other device. -/
theorem wp_turn (c i : Dev nD) (b : BitVec 1) (hb : b = 1#1 ↔ c = i) {α : Type} {Q : α → sProp 𝕄} {n : ℤ} (hn : n = ((nbrs i).length : ℤ))
    {T : b = 1#1 → Prog (TpuEff nD τ sig (Elt F) Λ₀ .tc) α} {p : Prog (TpuEff nD τ sig (Elt F) Λ₀ .tc) α}
    (hT : ∀ h, T h = sigs (nbrs i) (.op (.semWait barS n) fun _ => p)) (j : ℕ) (hj : j = i.val + 1) :
    iprop(records kv K ∗ levAts L lv ∗ (if c.val < i.val then barPost c else barPre kv c)
        ∗ ((if c.val < j then barPost c else barPre kv c) -∗ WP c p Q))
      ⊢ WP c (if h : b = 1#1 then T h else p) Q := by
  subst hj
  by_cases h : b = 1#1
  · obtain rfl := hb.mp h
    rw [dif_pos h, hT, if_neg (Nat.lt_irrefl _), if_pos (Nat.lt_succ_self _)]
    exact wp_barrier (kv := kv) (K := K) c (fun _ => p) hn
  · have hne : c ≠ i := fun e => h (hb.mpr e)
    have hv : c.val ≠ i.val := fun e => hne (Fin.ext e)
    rw [dif_neg h]
    have e : (if c.val < i.val + 1 then barPost c else barPre kv c) = (if c.val < i.val then barPost (F := F) c else barPre kv c) := by
      by_cases hlt : c.val < i.val
      · rw [if_pos hlt, if_pos (Nat.lt_succ_of_lt hlt)]
      · rw [if_neg hlt, if_neg (by omega)]
    rw [e]
    iintro ⟨-, -, H, Hk⟩
    iapply Hk
    iexact H

section Args
variable (arg0 : Memref sig .tc .vmem S2x512x768 .bf16) (harg0 : arg0.IsWhole) (arg1 : Memref sig .tc .vmem S768x512 .bf16) (harg1 : arg1.IsWhole)
  (arg2 : Memref sig .tc .vmem S2x512x8x64 .bf16) (harg2 : arg2.IsWhole) (arg3 : Memref sig .tc .vmem S2x512x8x64 .bf16) (harg3 : arg3.IsWhole)
  (arg4 : Memref sig .tc .vmem S512x768 .bf16) (harg4 : arg4.IsWhole) (arg5 : Memref sig .tc .vmem S2x512x768 .f32) (harg5 : arg5.IsWhole)
  (arg6 : Memref sig .tc .vmem S8x2x2x512x64 .bf16) (harg6 : arg6.IsWhole) (arg7 : Memref sig .tc .vmem S1024x512 .bf16) (harg7 : arg7.IsWhole)
  (arg8 : DmaSems sig S3x8) (arg9 : DmaSems sig S8)

/-- The entry handshake: the branch of the device's own place runs, the others do not. -/
theorem entry (c : Dev nD) (Q : (Σ' (_ : Dev nD), BitVec 32) → sProp 𝕄) :
    iprop(records kv K ∗ levAts L lv ∗ barPre kv c ∗ (barPost c -∗ Q ⟨c, place c⟩))
      ⊢ WP c (k0_part31 arg0 harg0 arg1 harg1 arg2 harg2 arg3 harg3 arg4 harg4 arg5 harg5 arg6 harg6 arg7 harg7 arg8 arg9) Q := by
  rw [k0_part31_eq_skeleton]
  unfold k0_part31_skel
  simp (config := { zeta := false }) only [semSignalWord, semWaitWord, Prog.lift, Prog.bind_op, Prog.bind_ret, Prog.pure_eq_ret]
  unfold WP
  rw [wp_deviceId]
  iintro ⟨#HR, #Hlev, H, Hk⟩
  ihave H := (Entails.of_eq (if_neg (Nat.not_lt_zero c.val) : (if c.val < 0 then barPost c else barPre kv c) = barPre kv c).symm) $$ H
  iapply (wp_turn (kv := kv) (K := K) c 0 _ (cond1 c) (n := (3#32).toInt) rfl (fun h => rfl) 1 rfl)
  isplitr; · iexact HR
  isplitr; · iexact Hlev
  isplitl [H]; · iexact H
  iintro H
  iapply (wp_turn (kv := kv) (K := K) c 1 _ (cond2 c) (n := (2#32).toInt) rfl (fun h => rfl) 2 rfl)
  isplitr; · iexact HR
  isplitr; · iexact Hlev
  isplitl [H]; · iexact H
  iintro H
  iapply (wp_turn (kv := kv) (K := K) c 2 _ (cond3 c) (n := (1#32).toInt) rfl (fun h => rfl) 3 rfl)
  isplitr; · iexact HR
  isplitr; · iexact Hlev
  isplitl [H]; · iexact H
  iintro H
  iapply (wp_turn (kv := kv) (K := K) c 3 _ (cond4 c) (n := (2#32).toInt) rfl (fun h => rfl) 4 rfl)
  isplitr; · iexact HR
  isplitr; · iexact Hlev
  isplitl [H]; · iexact H
  iintro H
  iapply (wp_turn (kv := kv) (K := K) c 4 _ (cond5 c) (n := (2#32).toInt) rfl (fun h => rfl) 5 rfl)
  isplitr; · iexact HR
  isplitr; · iexact Hlev
  isplitl [H]; · iexact H
  iintro H
  iapply (wp_turn (kv := kv) (K := K) c 5 _ (cond6 c) (n := (2#32).toInt) rfl (fun h => rfl) 6 rfl)
  isplitr; · iexact HR
  isplitr; · iexact Hlev
  isplitl [H]; · iexact H
  iintro H
  iapply (wp_turn (kv := kv) (K := K) c 6 _ (cond7 c) (n := (1#32).toInt) rfl (fun h => rfl) 7 rfl)
  isplitr; · iexact HR
  isplitr; · iexact Hlev
  isplitl [H]; · iexact H
  iintro H
  iapply (wp_turn (kv := kv) (K := K) c 7 _ (cond8 c) (n := (1#32).toInt) rfl (fun h => rfl) 8 rfl)
  isplitr; · iexact HR
  isplitr; · iexact Hlev
  isplitl [H]; · iexact H
  iintro H
  ihave H := (Entails.of_eq (if_pos c.isLt : (if c.val < 8 then barPost c else barPre kv c) = barPost c)) $$ H
  iapply (wp_done c)
  iapply Hk
  iexact H

end Args

end Cert.KernelIdeal.Tree
-- ==== Proof.Fill.lean ====
module

public import proofs.«01_k».proof.Proof.Entry
public import Idealize.ShloMosaic.Lib.ValueIdxCore
public import Idealize.ShloMosaic.Lib.Pointwise

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The root lays its keys and values out as chunks

Element `(h, s, b, p, d)` of the scratch buffer is to hold key (`s = 0`) or value (`s = 1`) entry
`(b, p, h, d)` of the root's block. -/

/-- The scratch buffer's contents once every chunk is laid out from keys `kb` and values `vb`. -/
def kvOf (kb vb : S2x512x8x64.Idx → Elt F .bf16) : S8x2x2x512x64.Idx → Elt F .bf16 := fun i =>
  (if (i 1).val = 0 then kb else vb) (ValueIdx.ix4 (i 2) (i 3) (i 0) (i 4))

/-- The order in which the boxes of the scratch buffer are filled. -/
def ord (i : S8x2x2x512x64.Idx) : ℕ := 4 * (i 0).val + 2 * (i 2).val + (i 1).val

theorem inb_box (h : Fin 8) (s b : Fin 2) : ∀ a, (![h.val, s.val, b.val, 0, 0] : Fin 5 → Nat) a + S1x1x1x512x64.size a ≤ S8x2x2x512x64.size a := by
  revert h s b; decide

/-- Box `(h, s, b)` of the scratch buffer. -/
abbrev box (h : Fin 8) (s b : Fin 2) : Rect S8x2x2x512x64 :=
  Rect.unit (s := S8x2x2x512x64) ![h.val, s.val, b.val, 0, 0] S1x1x1x512x64.size (inb_box h s b)

theorem mem_box (h : Fin 8) (s b : Fin 2) (i : S8x2x2x512x64.Idx) : i ∈ (box h s b).set ↔ (i 0).val = h.val ∧ (i 1).val = s.val ∧ (i 2).val = b.val := by
  refine Rect.mem_set_unit.trans ?_
  constructor
  · intro H
    have h0 := H 0; have h1 := H 1; have h2 := H 2
    have e0 : (![h.val, s.val, b.val, 0, 0] : Fin 5 → Nat) 0 = h.val := rfl
    have e1 : (![h.val, s.val, b.val, 0, 0] : Fin 5 → Nat) 1 = s.val := rfl
    have e2 : (![h.val, s.val, b.val, 0, 0] : Fin 5 → Nat) 2 = b.val := rfl
    have f0 : S1x1x1x512x64.size 0 = 1 := rfl
    have f1 : S1x1x1x512x64.size 1 = 1 := rfl
    have f2 : S1x1x1x512x64.size 2 = 1 := rfl
    omega
  · rintro ⟨H0, H1, H2⟩ a
    have hb := (i a).isLt
    fin_cases a
    · show h.val ≤ (i 0).val ∧ (i 0).val < h.val + 1; omega
    · show s.val ≤ (i 1).val ∧ (i 1).val < s.val + 1; omega
    · show b.val ≤ (i 2).val ∧ (i 2).val < b.val + 1; omega
    · exact ⟨Nat.zero_le _, by show (i 3).val < 0 + 512; rw [Nat.zero_add]; exact hb⟩
    · exact ⟨Nat.zero_le _, by show (i 4).val < 0 + 64; rw [Nat.zero_add]; exact hb⟩

/-- Storing a box's contents extends by that box the part of the buffer that agrees with `g`. -/
theorem write_box (h : Fin 8) (s b : Fin 2) (f g : S8x2x2x512x64.Idx → Elt F .bf16) (w : (box h s b).shape.Idx → Elt F .bf16)
    (hw : ∀ x, w x = g ((box h s b).idx x)) (n : ℕ) (hn : n = 4 * h.val + 2 * b.val + s.val) (hf : ∀ i, ord i < n → f i = g i) :
    ∀ i, ord i < n + 1 → (scM.access (box h s b)).write (Elt F) f w Finset.univ i = g i := by
  intro i hi
  by_cases hm : i ∈ (scM.access (box h s b)).setOn Finset.univ
  · obtain ⟨x, hx, rfl⟩ := Finset.mem_map.mp hm
    exact (View.write_emb_of_mem (v := scM.access (box h s b)) (Val := Elt F) f w (Finset.mem_univ x)).trans (hw x)
  · refine (View.write_of_not_mem (v := scM.access (box h s b)) (Val := Elt F) f w Finset.univ hm).trans (hf i ?_)
    replace hm : i ∉ (box h s b).set := fun hc => hm ((congrArg (i ∈ ·) (View.set_slice_whole _ _)).mpr hc)
    have h0 := (i 0).isLt; have h1 : (i 1).val < 2 := (i 1).isLt; have h2 : (i 2).val < 2 := (i 2).isLt
    have hb := b.isLt; have hs := s.isLt
    rw [mem_box] at hm
    unfold ord at hi ⊢
    omega

/-- The scratch buffer of `c`, its first `n` boxes holding what they are to hold. -/
def filled (c : Dev nD) (g : S8x2x2x512x64.Idx → Elt F .bf16) (n : ℕ) : sProp 𝕄 :=
  iprop(∃ f, ⌜∀ i, ord i < n → f i = g i⌝ ∗ scPts c Finset.univ fullShare f)

/-- One box: a block loaded, its unit axes cast away, stored. -/
theorem wp_put (c : Dev nD) (g : S8x2x2x512x64.Idx → Elt F .bf16) (h : Fin 8) (s b : Fin 2) (n : ℕ) (hn : n = 4 * h.val + 2 * b.val + s.val)
    {m : Memref sig .tc .vmem S2x512x8x64 .bf16} {q : PosShare TreeShare} {mb : Buf (Elt F) (m.view.loc (c : Thread nD τ))}
    {r : Rect S2x512x8x64} {w1 : m.view.LoadsAt r.toLoadRect} {w2 : scM.view.LoadsAt (box h s b).toLoadRect}
    (P : (r.shape.Idx → Elt F .bf16) → ((box h s b).shape.Idx → Elt F .bf16)) {w3 : (scM.access (box h s b)).Stores Finset.univ}
    {w4 : (Finset.univ : Finset (box h s b).shape.Idx) = Finset.univ ∨ ∀ a, (box h s b).stride a = 1}
    (hP : ∀ x, P (m.view.readAt (Elt F) r.toLoadRect mb) x = g ((box h s b).idx x))
    {α : Type} {Q : α → sProp 𝕄} {p : PUnit → Prog (TpuEff nD τ sig (Elt F) Λ₀ .tc) α} :
    iprop((m.view.loc (c : Thread nD τ) ↦{q} mb) ∗ filled c g n
        ∗ (((m.view.loc (c : Thread nD τ) ↦{q} mb) ∗ filled c g (n + 1)) -∗ WP c (p ⟨⟩) Q))
      ⊢ WP c (.op (.load m r.toLoadRect w1) fun x => .op (.load scM (box h s b).toLoadRect w2) fun _ =>
          .op (.store scM (box h s b) (P x) Finset.univ w3 w4) p) Q := by
  unfold filled WP
  iintro ⟨Hm, ⟨%f, %hf, Hf⟩, Hk⟩
  iapply (wp_load 𝒱₀ (c : Thread nD τ) none Set.univ (m := m) (Finset.subset_univ _)) $$ [Hm]
  · iexact Hm
  iintro Hm
  iapply (wp_load 𝒱₀ (c : Thread nD τ) none Set.univ (m := scM) (Finset.subset_univ _)) $$ [Hf]
  · iexact Hf
  iintro Hf
  iapply (wp_store 𝒱₀ (c : Thread nD τ) none Set.univ (m := scM) (r := box h s b) (Mk := Finset.univ) (Finset.subset_univ _)) $$ [Hf]
  · iexact Hf
  iintro Hf
  iapply Hk
  isplitl [Hm]; · iexact Hm
  iexists _
  isplitr
  · ipureintro
    exact write_box h s b f g _ hP n hn hf
  iexact Hf

/-- A block cast to a box: its unit axes move. -/
theorem lay_apply (x : S1x512x1x64.Idx → Elt F .bf16) (h : S1x512x1x64.ShapeCasts S512x64) (h' : S512x64.ShapeCasts S1x1x1x512x64) (j : S1x1x1x512x64.Idx) :
    shapeCast S1x1x1x512x64 (shapeCast S512x64 x h) h' j = x (ValueIdx.ix4 0 (j 3) 0 (j 4)) := by
  idx_vars j
  pointwise
  rfl

theorem inb_block (b : Fin 2) (h : Fin 8) : ∀ a, (![b.val, 0, h.val, 0] : Fin 4 → Nat) a + S1x512x1x64.size a ≤ S2x512x8x64.size a := by
  revert b h; decide

/-- Block `(b, h)` of the keys or values. -/
abbrev blk (b : Fin 2) (h : Fin 8) : Rect S2x512x8x64 :=
  Rect.unit (s := S2x512x8x64) ![b.val, 0, h.val, 0] S1x512x1x64.size (inb_block b h)

/-- What a box of keys or values receives. -/
theorem put_key (h : Fin 8) (b : Fin 2) (kb vb : S2x512x8x64.Idx → Elt F .bf16)
    (P : (S1x512x1x64.Idx → Elt F .bf16) → (S1x1x1x512x64.Idx → Elt F .bf16))
    (hP : ∀ v j, P v j = v (ValueIdx.ix4 0 (j 3) 0 (j 4))) (x : (box h 0 b).shape.Idx) :
    P ((Memref.whole cc0_stg2_0).view.readAt (Elt F) (blk b h).toLoadRect kb) x = kvOf kb vb ((box h 0 b).idx x) := by
  rw [hP]
  have e : (blk b h).idx (ValueIdx.ix4 0 (x 3) 0 (x 4)) = ValueIdx.ix4 (((box h 0 b).idx x) 2) (((box h 0 b).idx x) 3) (((box h 0 b).idx x) 0) (((box h 0 b).idx x) 4) := by
    have h0 : (x 0).val < 1 := (x 0).isLt
    have h2 : (x 2).val < 1 := (x 2).isLt
    funext a; apply Fin.ext
    fin_cases a
    · show b.val + 1 * 0 = b.val + 1 * (x 2).val; omega
    · rfl
    · show h.val + 1 * 0 = h.val + 1 * (x 0).val; omega
    · rfl
  have h1 : (((box h 0 b).idx x) 1).val = 0 := by
    have h1 : (x 1).val < 1 := (x 1).isLt
    show 0 + 1 * (x 1).val = 0; omega
  show kb ((blk b h).idx (ValueIdx.ix4 0 (x 3) 0 (x 4))) = _
  unfold kvOf
  rw [if_pos h1]
  exact congrArg kb e

theorem put_val (h : Fin 8) (b : Fin 2) (kb vb : S2x512x8x64.Idx → Elt F .bf16)
    (P : (S1x512x1x64.Idx → Elt F .bf16) → (S1x1x1x512x64.Idx → Elt F .bf16))
    (hP : ∀ v j, P v j = v (ValueIdx.ix4 0 (j 3) 0 (j 4))) (x : (box h 1 b).shape.Idx) :
    P ((Memref.whole cc0_stg3_0).view.readAt (Elt F) (blk b h).toLoadRect vb) x = kvOf kb vb ((box h 1 b).idx x) := by
  rw [hP]
  have e : (blk b h).idx (ValueIdx.ix4 0 (x 3) 0 (x 4)) = ValueIdx.ix4 (((box h 1 b).idx x) 2) (((box h 1 b).idx x) 3) (((box h 1 b).idx x) 0) (((box h 1 b).idx x) 4) := by
    have h0 : (x 0).val < 1 := (x 0).isLt
    have h2 : (x 2).val < 1 := (x 2).isLt
    funext a; apply Fin.ext
    fin_cases a
    · show b.val + 1 * 0 = b.val + 1 * (x 2).val; omega
    · rfl
    · show h.val + 1 * 0 = h.val + 1 * (x 0).val; omega
    · rfl
  have h1 : ¬ (((box h 1 b).idx x) 1).val = 0 := by
    show ¬ 1 + 1 * (x 1).val = 0; omega
  show vb ((blk b h).idx (ValueIdx.ix4 0 (x 3) 0 (x 4))) = _
  unfold kvOf
  rw [if_neg h1]
  exact congrArg vb e

/-- Both input blocks of the root, and the scratch buffer with its first `n` boxes filled. -/
def layAt (c : Dev nD) (kb vb : S2x512x8x64.Idx → Elt F .bf16) (n : ℕ) : sProp 𝕄 :=
  iprop((((c : Thread nD τ).loc cc0_stg2_0) ↦{fullShare} kb) ∗ (((c : Thread nD τ).loc cc0_stg3_0) ↦{fullShare} vb) ∗ filled c (kvOf kb vb) n)

/-- The four boxes of one head. -/
theorem wp_fill (c : Dev nD) (kb vb : S2x512x8x64.Idx → Elt F .bf16) (h : Fin 8)
    {α : Type} {Q : α → sProp 𝕄} (p : Prog (TpuEff nD τ sig (Elt F) Λ₀ .tc) α)
    {w1 w4 w7 w10} {w2 w5 w8 w11} {w3 w6 w9 w12} {u3 u6 u9 u12}
    (P1 P2 P3 P4 : (S1x512x1x64.Idx → Elt F .bf16) → (S1x1x1x512x64.Idx → Elt F .bf16))
    (h1 : ∀ v j, P1 v j = v (ValueIdx.ix4 0 (j 3) 0 (j 4))) (h2 : ∀ v j, P2 v j = v (ValueIdx.ix4 0 (j 3) 0 (j 4)))
    (h3 : ∀ v j, P3 v j = v (ValueIdx.ix4 0 (j 3) 0 (j 4))) (h4 : ∀ v j, P4 v j = v (ValueIdx.ix4 0 (j 3) 0 (j 4))) :
    iprop(layAt c kb vb (4 * h.val) ∗ (layAt c kb vb (4 * (h.val + 1)) -∗ WP c p Q))
      ⊢ WP c (.op (.load (Memref.whole cc0_stg2_0) (blk 0 h).toLoadRect w1) fun x => .op (.load scM (box h 0 0).toLoadRect w2) fun _ =>
          .op (.store scM (box h 0 0) (P1 x) Finset.univ w3 u3) fun _ =>
          .op (.load (Memref.whole cc0_stg3_0) (blk 0 h).toLoadRect w4) fun x => .op (.load scM (box h 1 0).toLoadRect w5) fun _ =>
          .op (.store scM (box h 1 0) (P2 x) Finset.univ w6 u6) fun _ =>
          .op (.load (Memref.whole cc0_stg2_0) (blk 1 h).toLoadRect w7) fun x => .op (.load scM (box h 0 1).toLoadRect w8) fun _ =>
          .op (.store scM (box h 0 1) (P3 x) Finset.univ w9 u9) fun _ =>
          .op (.load (Memref.whole cc0_stg3_0) (blk 1 h).toLoadRect w10) fun x => .op (.load scM (box h 1 1).toLoadRect w11) fun _ =>
          .op (.store scM (box h 1 1) (P4 x) Finset.univ w12 u12) fun _ => p) Q := by
  unfold layAt
  iintro ⟨⟨HK, HV, Hf⟩, Hk⟩
  iapply (wp_put c (kvOf kb vb) h 0 0 (4 * h.val) rfl P1 (put_key h 0 kb vb P1 h1))
  isplitl [HK]; · iexact HK
  isplitl [Hf]; · iexact Hf
  iintro ⟨HK, Hf⟩
  iapply (wp_put c (kvOf kb vb) h 1 0 (4 * h.val + 1) rfl P2 (put_val h 0 kb vb P2 h2))
  isplitl [HV]; · iexact HV
  isplitl [Hf]; · iexact Hf
  iintro ⟨HV, Hf⟩
  iapply (wp_put c (kvOf kb vb) h 0 1 (4 * h.val + 1 + 1) rfl P3 (put_key h 1 kb vb P3 h3))
  isplitl [HK]; · iexact HK
  isplitl [Hf]; · iexact Hf
  iintro ⟨HK, Hf⟩
  iapply (wp_put c (kvOf kb vb) h 1 1 (4 * h.val + 1 + 1 + 1) rfl P4 (put_val h 1 kb vb P4 h4))
  isplitl [HV]; · iexact HV
  isplitl [Hf]; · iexact Hf
  iintro ⟨HV, Hf⟩
  iapply Hk
  isplitl [HK]; · iexact HK
  isplitl [HV]; · iexact HV
  iexact Hf

end Cert.KernelIdeal.Tree
-- ==== Proof.Root.lean ====
module

public import proofs.«01_k».proof.Proof.Fill

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # The root's part: lay the chunks out, start every transfer of them -/

/-- A piece of the program at the buffers it runs on. -/
abbrev at_ {β : Sort _} (f : ∀ (arg0 : Memref sig .tc .vmem S2x512x768 .bf16) (harg0 : arg0.IsWhole) (arg1 : Memref sig .tc .vmem S768x512 .bf16) (harg1 : arg1.IsWhole)
  (arg2 : Memref sig .tc .vmem S2x512x8x64 .bf16) (harg2 : arg2.IsWhole) (arg3 : Memref sig .tc .vmem S2x512x8x64 .bf16) (harg3 : arg3.IsWhole)
  (arg4 : Memref sig .tc .vmem S512x768 .bf16) (harg4 : arg4.IsWhole) (arg5 : Memref sig .tc .vmem S2x512x768 .f32) (harg5 : arg5.IsWhole)
  (arg6 : Memref sig .tc .vmem S8x2x2x512x64 .bf16) (harg6 : arg6.IsWhole) (arg7 : Memref sig .tc .vmem S1024x512 .bf16) (harg7 : arg7.IsWhole)
  (arg8 : DmaSems sig S3x8) (arg9 : DmaSems sig S8), β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3

theorem lay_eq (v : S1x512x1x64.Idx → Elt F .bf16) (j : S1x1x1x512x64.Idx) : k0_pay3 v j = v (ValueIdx.ix4 0 (j 3) 0 (j 4)) := lay_apply v _ _ j

theorem box_packed (h : Fin 8) (s b : Fin 2) : (box h s b).PackedRows (EltTy.packing .bf16) := by revert h s b; decide

/-- The program that lays out the four boxes of head `h`. -/
def fillP {α : Type} (h : Fin 8) (p : Prog (TpuEff nD τ sig (Elt F) Λ₀ .tc) α) : Prog (TpuEff nD τ sig (Elt F) Λ₀ .tc) α :=
  .op (.load (Memref.whole cc0_stg2_0) (blk 0 h).toLoadRect (View.loadsAt_vmem h_S1x512x1x64)) fun x =>
  .op (.load scM (box h 0 0).toLoadRect (View.loadsAt_vmem h_S1x1x1x512x64)) fun _ =>
  .op (.store scM (box h 0 0) (k0_pay3 x) Finset.univ (View.stores_vmem h_S1x1x1x512x64 ((Memref.isWhole_whole cc0_scratch0).storeExact_slice rfl _ (box_packed h 0 0)) (fun _ => rfl)) (.inl rfl)) fun _ =>
  .op (.load (Memref.whole cc0_stg3_0) (blk 0 h).toLoadRect (View.loadsAt_vmem h_S1x512x1x64)) fun x =>
  .op (.load scM (box h 1 0).toLoadRect (View.loadsAt_vmem h_S1x1x1x512x64)) fun _ =>
  .op (.store scM (box h 1 0) (k0_pay3 x) Finset.univ (View.stores_vmem h_S1x1x1x512x64 ((Memref.isWhole_whole cc0_scratch0).storeExact_slice rfl _ (box_packed h 1 0)) (fun _ => rfl)) (.inl rfl)) fun _ =>
  .op (.load (Memref.whole cc0_stg2_0) (blk 1 h).toLoadRect (View.loadsAt_vmem h_S1x512x1x64)) fun x =>
  .op (.load scM (box h 0 1).toLoadRect (View.loadsAt_vmem h_S1x1x1x512x64)) fun _ =>
  .op (.store scM (box h 0 1) (k0_pay3 x) Finset.univ (View.stores_vmem h_S1x1x1x512x64 ((Memref.isWhole_whole cc0_scratch0).storeExact_slice rfl _ (box_packed h 0 1)) (fun _ => rfl)) (.inl rfl)) fun _ =>
  .op (.load (Memref.whole cc0_stg3_0) (blk 1 h).toLoadRect (View.loadsAt_vmem h_S1x512x1x64)) fun x =>
  .op (.load scM (box h 1 1).toLoadRect (View.loadsAt_vmem h_S1x1x1x512x64)) fun _ =>
  .op (.store scM (box h 1 1) (k0_pay3 x) Finset.univ (View.stores_vmem h_S1x1x1x512x64 ((Memref.isWhole_whole cc0_scratch0).storeExact_slice rfl _ (box_packed h 1 1)) (fun _ => rfl)) (.inl rfl)) fun _ => p

theorem wp_fillP (c : Dev nD) (kb vb : S2x512x8x64.Idx → Elt F .bf16) (h : Fin 8) {α : Type} {Q : α → sProp 𝕄} (p : Prog (TpuEff nD τ sig (Elt F) Λ₀ .tc) α) :
    iprop(layAt c kb vb (4 * h.val) ∗ (layAt c kb vb (4 * (h.val + 1)) -∗ WP c p Q)) ⊢ WP c (fillP h p) Q := by
  unfold fillP
  exact wp_fill c kb vb h p k0_pay3 k0_pay3 k0_pay3 k0_pay3 lay_eq lay_eq lay_eq lay_eq

theorem fill0 : at_ (k0_part1 (F := F)) = fillP 0 (.ret ⟨⟩) := rfl
theorem fill1 : at_ (k0_part2 (F := F)) = fillP 1 (.ret ⟨⟩) := rfl
theorem fill2 : at_ (k0_part3 (F := F)) = fillP 2 (.ret ⟨⟩) := rfl
theorem fill3 : at_ (k0_part4 (F := F)) = fillP 3 (.ret ⟨⟩) := rfl
theorem fill4 : at_ (k0_part5 (F := F)) = fillP 4 (.ret ⟨⟩) := rfl
theorem fill5 : at_ (k0_part6 (F := F)) = fillP 5 (.ret ⟨⟩) := rfl
theorem fill6 : at_ (k0_part7 (F := F)) = fillP 6 (.ret ⟨⟩) := rfl
theorem fill7 : at_ (k0_part8 (F := F)) = fillP 7 (.ret ⟨⟩) := rfl

/-! ## Starting the transfers -/

theorem chunk_words (h : Fin 8) : (chM h).view.WordExact :=
  ((Memref.isWhole_whole cc0_scratch0).wordExact_slice rfl _ (by revert h; decide)).reshape _ _

/-- The root's children. -/
def rkid (r : Fin 3) : Dev nD := match r with | 0 => 1 | 1 => 3 | 2 => 4
/-- The semaphore the root's transfer `r` of chunk `h` signals on leaving. -/
def sSem (r : Fin 3) (h : Fin 8) : DmaSem sig := ⟨6 + 8 * r.val + h.val, by have := r.isLt; have := h.isLt; show _ < 38; omega⟩
/-- The semaphore a transfer of chunk `h` signals on arrival. -/
def rSem (h : Fin 8) : DmaSem sig := ⟨30 + h.val, by have := h.isLt; show _ < 38; omega⟩
theorem sSem_eq (r : Fin 3) (h : Fin 8) : SemLoc.dma (sSem r h) = (csem (sK r h) : SemLoc sig) := by revert r h; decide
theorem rSem_eq (h : Fin 8) : SemLoc.dma (rSem h) = (csem (rK h) : SemLoc sig) := by revert h; decide
theorem rkid_ne (r : Fin 3) : rkid r ≠ 0 := by revert r; decide
theorem par_rkid (r : Fin 3) : par (rkid r) = 0 := by revert r; decide

/-- The program that starts the listed transfers of the root. -/
def sendL {α : Type} : List (Fin 8 × Fin 3) → Prog (TpuEff nD τ sig (Elt F) Λ₀ .tc) α → Prog (TpuEff nD τ sig (Elt F) Λ₀ .tc) α
  | [], p => p
  | x :: l, p => .op (.enqueueDma (chM x.1) (.remote (Dev.tc (rkid x.2) : Thread nD τ) (chM x.1) (.dma (sSem x.2 x.1))) (.dma (rSem x.1))
      (chunk_words x.1) (chunk_words x.1) ⟨⟨rfl, Or.inl rfl⟩, trivial⟩) fun _ => sendL l p

/-- What one transfer of the root starts from. -/
def sendRes (kv : S8x2x2x512x64.Idx → Elt F .bf16) (x : Fin 8 × Fin 3) : sProp 𝕄 :=
  iprop(scPts 0 (chS x.1) (lendQ 0 x.2) kv ∗ (∃ f, scPts (rkid x.2) (chS x.1) fullShare f)
    ∗ dutyTok ER (sendCell 0 x.2 x.1) 0 0 ∗ dutyTok ER (recvCell (rkid x.2) x.1) 0 0)

/-- The credit it leaves. -/
def sendCred (x : Fin 8 × Fin 3) : sProp 𝕄 := cred (tallyAt (sendCell 0 x.2 x.1) () N)

theorem wp_sendL {α : Type} {Q : α → sProp 𝕄} (p : Prog (TpuEff nD τ sig (Elt F) Λ₀ .tc) α) (L' : List (GSem nD τ sig × ℕ)) :
    ∀ l : List (Fin 8 × Fin 3),
      iprop(records kv K ∗ Ow 0 (l.map (fun x => (recvCell (rkid x.2) x.1, N)) ++ L') ∗ bigSepL l (sendRes kv)
          ∗ (iprop(Ow 0 L' ∗ bigSepL l (sendCred (F := F))) -∗ WP 0 p Q))
        ⊢ WP 0 (sendL l p) Q
  | [] => by
    unfold sendL
    iintro ⟨-, HO, -, Hk⟩
    iapply Hk
    isplitl [HO]; · iexact HO
    rw [show bigSepL [] (sendCred (F := F)) = (iprop(emp) : sProp 𝕄) from rfl]
    iempintro
  | x :: l => by
    unfold sendL
    rw [List.map_cons, List.cons_append, show bigSepL (x :: l) (sendRes kv) = iprop(sendRes kv x ∗ bigSepL l (sendRes kv)) from bigSepL_cons ..,
      show bigSepL (x :: l) (sendCred (F := F)) = iprop(sendCred (F := F) x ∗ bigSepL l (sendCred (F := F))) from bigSepL_cons ..]
    iintro ⟨#HR, HO, ⟨Hx, Hl⟩, Hk⟩
    unfold sendRes
    icases Hx with ⟨Hs, Hd, Ht1, Ht2⟩
    iapply (step_send (kv := kv) (K := K) 0 (rkid x.2) (rkid x.2) rfl (rkid_ne _) (par_rkid _) x.2 x.1 (dut_send_root _ _)
      (l.map (fun x => (recvCell (rkid x.2) x.1, N)) ++ L') rfl rfl (sSem_eq _ _) (rSem_eq _)) $$ [HO Hs Hd Ht1 Ht2]
    · isplitr; · iexact HR
      isplitl [Hs]; · iexact Hs
      isplitl [Hd]; · iexact Hd
      isplitl [HO]; · iexact HO
      isplitl [Ht1]; · iexact Ht1
      iexact Ht2
    iintro ⟨Hc, HO⟩
    iapply (wp_sendL p L' l)
    isplitr; · iexact HR
    isplitl [HO]; · iexact HO
    isplitl [Hl]; · unfold sendRes; iexact Hl
    iintro ⟨HO, Hcs⟩
    iapply Hk
    isplitl [HO]; · iexact HO
    isplitl [Hc]; · unfold sendCred; iexact Hc
    iexact Hcs

theorem sendL_bind {α β : Type} (l : List (Fin 8 × Fin 3)) (p : Prog (TpuEff nD τ sig (Elt F) Λ₀ .tc) α) (k : α → Prog (TpuEff nD τ sig (Elt F) Λ₀ .tc) β) :
    (sendL l p >>= k) = sendL l (p >>= k) := by
  induction l with
  | nil => rfl
  | cons x l ih => exact congrArg (Prog.op _) (funext fun _ => ih)

/-- Every transfer of the root, in the order it starts them. -/
abbrev allSends : List (Fin 8 × Fin 3) := (List.finRange 8).flatMap fun h => (List.finRange 3).map fun r => (h, r)

section Sends
variable (h9 : k0_cond9 (0 : Dev nD) = 1#1)
theorem sends9 : at_ (k0_part9 (F := F)) 0 h9 = sendL [(0, 0), (0, 1)] (.ret 4#32) := rfl
theorem sends10 : at_ (k0_part10 (F := F)) 0 h9 = fun _ => sendL [(0, 2), (1, 0)] (.ret ⟨⟩) := rfl
theorem sends11 : at_ (k0_part11 (F := F)) 0 h9 = sendL [(1, 1), (1, 2)] (.ret ⟨⟩) := rfl
theorem sends12 : at_ (k0_part12 (F := F)) 0 h9 = sendL [(2, 0), (2, 1)] (.ret ⟨⟩) := rfl
theorem sends13 : at_ (k0_part13 (F := F)) 0 h9 = sendL [(2, 2), (3, 0), (3, 1)] (.ret ⟨⟩) := rfl
theorem sends14 : at_ (k0_part14 (F := F)) 0 h9 = sendL [(3, 2), (4, 0)] (.ret ⟨3#32, 0#32⟩) := rfl
theorem sends15 : at_ (k0_part15 (F := F)) 0 h9 = fun _ _ => sendL [(4, 1), (4, 2)] (.ret ⟨⟩) := rfl
theorem sends16 : at_ (k0_part16 (F := F)) 0 h9 = sendL [(5, 0), (5, 1)] (.ret ⟨⟩) := rfl
theorem sends17 : at_ (k0_part17 (F := F)) 0 h9 = sendL [(5, 2), (6, 0), (6, 1)] (.ret ⟨⟩) := rfl
theorem sends18 : at_ (k0_part18 (F := F)) 0 h9 = sendL [(6, 2), (7, 0)] (.ret 3#32) := rfl

theorem fillP_bind {α β : Type} (h : Fin 8) (p : Prog (TpuEff nD τ sig (Elt F) Λ₀ .tc) α) (k : α → Prog (TpuEff nD τ sig (Elt F) Λ₀ .tc) β) :
    (fillP h p >>= k) = fillP h (p >>= k) := rfl

theorem sendL_append {α : Type} (l l' : List (Fin 8 × Fin 3)) (p : Prog (TpuEff nD τ sig (Elt F) Λ₀ .tc) α) :
    sendL l (sendL l' p) = sendL (l ++ l') p := by
  induction l with
  | nil => rfl
  | cons x l ih => exact congrArg (Prog.op _) (funext fun _ => ih)

theorem ret_bind {α β : Type} (a : α) (k : α → Prog (TpuEff nD τ sig (Elt F) Λ₀ .tc) β) : ((Prog.ret a : Prog (TpuEff nD τ sig (Elt F) Λ₀ .tc) α) >>= k) = k a := rfl

/-- The root's printed program: every box of every head, then every transfer but the last. -/
theorem root_prog {α : Type} (k : PUnit → Prog (TpuEff nD τ sig (Elt F) Λ₀ .tc) α) :
    (at_ (k0_part19 (F := F)) 0 h9 >>= k)
      = fillP 0 (fillP 1 (fillP 2 (fillP 3 (fillP 4 (fillP 5 (fillP 6 (fillP 7 (sendL (allSends.take 23) (k ⟨⟩))))))))) := by
  have e : at_ (k0_part19 (F := F)) 0 h9 = (do
    at_ k0_part1; at_ k0_part2; at_ k0_part3; at_ k0_part4; at_ k0_part5; at_ k0_part6; at_ k0_part7; at_ k0_part8
    let x ← at_ k0_part9 0 h9
    at_ k0_part10 0 h9 x; at_ k0_part11 0 h9; at_ k0_part12 0 h9; at_ k0_part13 0 h9
    let x ← at_ k0_part14 0 h9
    at_ k0_part15 0 h9 x.1 x.2; at_ k0_part16 0 h9; at_ k0_part17 0 h9
    let x ← at_ k0_part18 0 h9
    sendL [(7, 1)] (.ret ⟨⟩)) := rfl
  rw [e, fill0, fill1, fill2, fill3, fill4, fill5, fill6, fill7, sends9, sends10, sends11, sends12, sends13, sends14, sends15, sends16, sends17, sends18]
  simp only [fillP_bind, sendL_bind, ret_bind, sendL_append]
  rfl

end Sends

end Cert.KernelIdeal.Tree
-- ==== Proof.Heads.lean ====
module

public import proofs.«01_k».proof.Proof.Root

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # What a device holds of each head, and the two steps that change it -/

section Split
variable (c : Dev nD) (S : Finset S8x2x2x512x64.Idx) (q : PosShare TreeShare) (f : S8x2x2x512x64.Idx → Elt F .bf16)

/-- The scratch buffer is its eight chunks. -/
theorem chunks : (scPts c Finset.univ q f : sProp 𝕄) = bigSep Finset.univ (fun h => scPts c (chS h) q f) := by
  have e := pointsTo_biUnion (Ix := Unit) (Val := Elt F) (Name := ℕ) (U := UU) (Lvl := ℕ) (sig := sig) (nD := nD) (τ := τ) (ℓ := (c : Thread nD τ).loc cc0_scratch0) (q := q) (f := f) (Finset.univ : Finset (Fin 8)) chS
    fun t _ t' _ hn => chS_disj t t' hn
  refine Eq.trans (congrArg (fun S => scPts c S q f) ?_) e
  refine (Finset.eq_univ_iff_forall.mpr fun i => ?_).symm
  rw [Finset.mem_biUnion]
  exact ⟨⟨(i 0).val, (i 0).isLt⟩, Finset.mem_univ _, (mem_chS _ i).mpr rfl⟩

/-- A share of a chunk is its two halves. -/
theorem halves : (scPts c S q f : sProp 𝕄) ⊣⊢ iprop(scPts c S q.left f ∗ scPts c S q.right f) :=
  pointsTo_share (PosShare.mem_left_op_right q)

/-- The root's chunk: three shares to lend and one to keep. -/
theorem root_shares : (scPts 0 S fullShare f : sProp 𝕄) ⊣⊢
    iprop(scPts 0 S (lendQ 0 0) f ∗ scPts 0 S (lendQ 0 1) f ∗ scPts 0 S (lendQ 0 2) f ∗ scPts 0 S (keepQ 0) f) := by
  rw [show lendQ 0 0 = fullShare.left from if_pos rfl, show lendQ 0 1 = fullShare.right.left from if_pos rfl,
    show lendQ 0 2 = fullShare.right.right.left from if_pos rfl, show keepQ 0 = fullShare.right.right.right from if_pos rfl]
  constructor
  · iintro H
    ihave H := (halves 0 S fullShare f).1 $$ H
    icases H with ⟨H0, H⟩
    ihave H := (halves 0 S fullShare.right f).1 $$ H
    icases H with ⟨H1, H⟩
    ihave H := (halves 0 S fullShare.right.right f).1 $$ H
    icases H with ⟨H2, H3⟩
    isplitl [H0]; · iexact H0
    isplitl [H1]; · iexact H1
    isplitl [H2]; · iexact H2
    iexact H3
  · iintro ⟨H0, H1, H2, H3⟩
    ihave H := (halves 0 S fullShare.right.right f).2 $$ [H2 H3]
    · isplitl [H2]; · iexact H2
      iexact H3
    ihave H := (halves 0 S fullShare.right f).2 $$ [H1 H]
    · isplitl [H1]; · iexact H1
      iexact H
    iapply (halves 0 S fullShare f).2
    isplitl [H0]; · iexact H0
    iexact H

theorem lend_inner (hc : c ≠ 0) : lendQ c 0 = fullShare.left := if_neg hc
theorem keep_inner (hi : inner c) : keepQ c = fullShare.right := by
  unfold keepQ; rw [if_neg (inner_ne hi), if_pos hi]
theorem keep_leaf (hc : c ≠ 0) (hi : ¬ inner c) : keepQ c = fullShare := by
  unfold keepQ; rw [if_neg hc, if_neg hi]

end Split

/-- What a device still owes from head `h` on, the root having paid everything at its start. -/
def rem (c : Dev nD) (h : ℕ) : List (GSem nD τ sig × ℕ) := if c = 0 then [] else dues c h

theorem rem_end (c : Dev nD) : rem c 8 = [] := by
  unfold rem; split
  · rfl
  · exact dues_end c

/-- What an inner device's transfer of head `h` needs beside the chunk. -/
def fwdRes (c : Dev nD) (h : Fin 8) : sProp 𝕄 :=
  if inner c then iprop((∃ f, scPts (kid c) (chS h) fullShare f) ∗ dutyTok ER (sendCell c 0 h) 0 c ∗ dutyTok ER (recvCell (kid c) h) 0 c) else iprop(emp)

/-- What a device keeps of head `h` besides its readable share of the chunk, its transfers of it under way. -/
def after (c : Dev nD) (h : Fin 8) : sProp 𝕄 :=
  if c = 0 then iprop(sendCred (F := F) (h, 0) ∗ sendCred (F := F) (h, 1) ∗ sendCred (F := F) (h, 2))
  else iprop((if inner c then cred (tallyAt (sendCell c 0 h) () N) else iprop(emp)) ∗ atPos ER (recvCell c h) 1 ∅ 0)

/-- Head `h` readable, its transfers under way. -/
def ready (kv : S8x2x2x512x64.Idx → Elt F .bf16) (c : Dev nD) (h : Fin 8) : sProp 𝕄 := iprop(scPts c (chS h) (keepQ c) kv ∗ after c h)

/-- Head `h` before its receive wait. -/
def await (kv : S8x2x2x512x64.Idx → Elt F .bf16) (c : Dev nD) (h : Fin 8) : sProp 𝕄 :=
  if c = 0 then ready kv c h else iprop(cred (tallyAt (recvCell c h) () N) ∗ atPos ER (recvCell c h) 0 ∅ 0 ∗ fwdRes c h)

/-- Head `h` received, not yet passed on. -/
def got (kv : S8x2x2x512x64.Idx → Elt F .bf16) (c : Dev nD) (h : Fin 8) : sProp 𝕄 :=
  if c = 0 then ready kv c h else iprop(scPts c (chS h) fullShare kv ∗ atPos ER (recvCell c h) 1 ∅ 0 ∗ fwdRes c h)

/-- The receive wait of head `h`: made by every device but the root. -/
theorem wp_recv (c : Dev nD) (h : Fin 8) (n : ℕ) (b : BitVec 1) (hb : b = 1#1 ↔ c ≠ 0) {α : Type} {Q : α → sProp 𝕄}
    {sp : Space} {s : Shape} {e : EltTy} {src : Memref sig .tc sp s e} {dst : Memref sig .tc .vmem S2x2x512x64 .bf16}
    {w1 : src.view.WordExact} {w2 : dst.view.WordExact} {sm : DmaSem sig}
    {T : b = 1#1 → Prog (TpuEff nD τ sig (Elt F) Λ₀ .tc) α} {p : Prog (TpuEff nD τ sig (Elt F) Λ₀ .tc) α}
    (hT : ∀ h, T h = .op (.waitDma2 sm src dst w1 w2) fun _ => p) (hsm : csem (rK h) = .dma sm) (hdst : dst = chM h) :
    iprop(records kv K ∗ levAts L lv ∗ Ow c (rem c n) ∗ await kv c h ∗ ((Ow c (rem c n) ∗ got kv c h) -∗ WP c p Q))
      ⊢ WP c (if h : b = 1#1 then T h else p) Q := by
  by_cases h0 : c = 0
  · rw [dif_neg fun hb' => hb.mp hb' h0]
    unfold await got
    rw [if_pos h0, if_pos h0]
    iintro ⟨-, -, HO, HA, Hk⟩
    iapply Hk
    isplitl [HO]; · iexact HO
    iexact HA
  · rw [dif_pos (hb.mpr h0), hT]
    unfold await got
    rw [if_neg h0, if_neg h0, show rem c n = dues c n from if_neg h0]
    iintro ⟨#HR, #Hlev, HO, ⟨Hc, Hat, HF⟩, Hk⟩
    iapply (step_wait (kv := kv) (K := K) (h := h) c (par c) (rK h) (rK_ne h) (dut_recv c h h0) (dues c n) (mayWait_recv c h n) hsm hdst) $$ [HO Hc Hat]
    · isplitr; · iexact HR
      isplitr; · iexact Hlev
      isplitl [Hc]; · iexact Hc
      isplitl [HO]; · iexact HO
      iexact Hat
    iintro ⟨HO, Hat, Hp⟩
    ihave Hp := (Entails.of_eq (pay_recv kv c h (par c))) $$ Hp
    iapply Hk
    isplitl [HO]; · iexact HO
    isplitl [Hp]; · iexact Hp
    isplitl [Hat]; · iexact Hat
    iexact HF

/-- Head `h` passed on: by an inner device, to its one child. -/
theorem wp_fwd (c : Dev nD) (h : Fin 8) (b : BitVec 1) (hb : b = 1#1 ↔ inner c) {α : Type} {Q : α → sProp 𝕄}
    {n : b = 1#1 → Dev nD} (hn : ∀ h, n h = kid c) {src dst : Memref sig .tc .vmem S2x2x512x64 .bf16}
    {w1 : src.view.WordExact} {w2 : dst.view.WordExact} {sS sR : DmaSem sig}
    {T : b = 1#1 → Prog (TpuEff nD τ sig (Elt F) Λ₀ .tc) α} {p : Prog (TpuEff nD τ sig (Elt F) Λ₀ .tc) α}
    (hT : ∀ h, T h = .op (.enqueueDma src (.remote (Dev.tc (n h) : Thread nD τ) dst (.dma sS)) (.dma sR) w1 w2 ⟨⟨rfl, Or.inl rfl⟩, trivial⟩) fun _ => p)
    (hsrc : src = chM h) (hdst : dst = chM h) (hS : SemLoc.dma sS = csem (sK 0 h)) (hR : SemLoc.dma sR = csem (rK h)) {j : ℕ} (hj : j = h.val + 1) :
    iprop(records kv K ∗ Ow c (rem c h.val) ∗ got kv c h ∗ ((Ow c (rem c j) ∗ ready kv c h) -∗ WP c p Q))
      ⊢ WP c (if h : b = 1#1 then T h else p) Q := by
  subst hj
  by_cases hi : inner c
  · have h0 : c ≠ 0 := inner_ne hi
    rw [dif_pos (hb.mpr hi), hT]
    unfold got ready after fwdRes
    rw [if_neg h0, if_neg h0, if_pos hi, if_pos hi, show rem c h.val = (recvCell (kid c) h, N) :: rem c (h.val + 1) by
      unfold rem; rw [if_neg h0, if_neg h0]; exact dues_inner hi h]
    iintro ⟨#HR, HO, ⟨Hs, Hat, Hd, Ht1, Ht2⟩, Hk⟩
    ihave Hs := (halves c (chS h) fullShare kv).1 $$ Hs
    icases Hs with ⟨Hs, Hs'⟩
    iapply (step_send (kv := kv) (K := K) c (kid c) _ (hn _) (kid_ne hi) (par_kid hi) 0 h (dut_send_inner c h hi)
      (rem c (h.val + 1)) hsrc hdst hS hR) $$ [HO Hs Hd Ht1 Ht2]
    · isplitr; · iexact HR
      isplitl [Hs]; · rw [lend_inner c h0]; iexact Hs
      isplitl [Hd]; · iexact Hd
      isplitl [HO]; · iexact HO
      isplitl [Ht1]; · iexact Ht1
      iexact Ht2
    iintro ⟨Hc, HO⟩
    iapply Hk
    isplitl [HO]; · iexact HO
    isplitl [Hs']; · rw [keep_inner c hi]; iexact Hs'
    isplitl [Hc]; · iexact Hc
    iexact Hat
  · rw [dif_neg fun hb' => hi (hb.mp hb')]
    have e : got kv c h = ready kv c h := by
      unfold got; by_cases h0 : c = 0
      · rw [if_pos h0]
      · rw [if_neg h0]
        unfold ready after fwdRes
        rw [if_neg h0, if_neg hi, if_neg hi, keep_leaf c h0 hi]
        exact congrArg _ (BI.equiv_iff.mp ⟨BI.sep_comm, BI.sep_comm⟩)
    have e' : rem c h.val = rem c (h.val + 1) := by
      unfold rem; by_cases h0 : c = 0
      · rw [if_pos h0, if_pos h0]
      · rw [if_neg h0, if_neg h0, dues_leaf h0 hi, dues_leaf h0 hi]
    rw [e, e']
    iintro ⟨-, HO, HA, Hk⟩
    iapply Hk
    isplitl [HO]; · iexact HO
    iexact HA

end Cert.KernelIdeal.Tree
-- ==== Proof.Tail.lean ====
module

public import proofs.«01_k».proof.Proof.Heads

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # The end of the program: every transfer's send wait, and the chunks whole again -/

theorem bigSep_heads (Φ : Fin 8 → sProp 𝕄) : bigSep Finset.univ Φ = bigSepL (List.finRange 8) Φ :=
  bigSep_univ_eq_bigSepL (List.finRange 8) (by decide) (by decide) Φ

theorem mono8 {Φ Ψ : Fin 8 → sProp 𝕄} (h : ∀ i, Φ i ⊢ Ψ i) : bigSep Finset.univ Φ ⊢ bigSep Finset.univ Ψ :=
  bigSep_mono fun i _ => h i

theorem bigSep_rows (Φ : Fin 3 → sProp 𝕄) : bigSep Finset.univ Φ = iprop(Φ 0 ∗ Φ 1 ∗ Φ 2) := by
  refine (bigSep_univ_eq_bigSepL [0, 1, 2] (by decide) (by decide) Φ).trans ?_
  rfl

/-- All the root's transfers, head by head. -/
theorem bigSep_sends (Φ : Fin 8 × Fin 3 → sProp 𝕄) :
    bigSepL allSends Φ = bigSep Finset.univ (fun h => iprop(Φ (h, 0) ∗ Φ (h, 1) ∗ Φ (h, 2))) := by
  rw [← bigSep_univ_eq_bigSepL allSends (by decide) (by decide) Φ, bigSep_univ_prod]
  exact bigSep_congr fun h _ => bigSep_rows fun r => Φ (h, r)

/-- An inner device's transfers. -/
abbrev oneSends : List (Fin 8 × Fin 3) := (List.finRange 8).map fun h => (h, 0)

theorem bigSep_oneSends (Φ : Fin 8 × Fin 3 → sProp 𝕄) : bigSepL oneSends Φ = bigSep Finset.univ (fun h => Φ (h, 0)) :=
  (bigSep_heads fun h => Φ (h, 0)).symm

/-- The program that waits for the listed transfers to have left. -/
def waitL {α : Type} : List (Fin 8 × Fin 3) → Prog (TpuEff nD τ sig (Elt F) Λ₀ .tc) α → Prog (TpuEff nD τ sig (Elt F) Λ₀ .tc) α
  | [], p => p
  | x :: l, p => .op (.waitDma2 (sSem x.2 x.1) (chM x.1) (chM x.1) (chunk_words x.1) (chunk_words x.1)) fun _ => waitL l p

theorem waitL_bind {α β : Type} (l : List (Fin 8 × Fin 3)) (p : Prog (TpuEff nD τ sig (Elt F) Λ₀ .tc) α) (k : α → Prog (TpuEff nD τ sig (Elt F) Λ₀ .tc) β) :
    (waitL l p >>= k) = waitL l (p >>= k) := by
  induction l with
  | nil => rfl
  | cons x l ih => exact congrArg (Prog.op _) (funext fun _ => ih)

theorem waitL_append {α : Type} (l l' : List (Fin 8 × Fin 3)) (p : Prog (TpuEff nD τ sig (Elt F) Λ₀ .tc) α) :
    waitL l (waitL l' p) = waitL (l ++ l') p := by
  induction l with
  | nil => rfl
  | cons x l ih => exact congrArg (Prog.op _) (funext fun _ => ih)

/-- Before and after one send wait. -/
def waitPre (c : Dev nD) (x : Fin 8 × Fin 3) : sProp 𝕄 :=
  iprop(cred (tallyAt (sendCell c x.2 x.1) () N) ∗ atPos ER (sendCell c x.2 x.1) 0 ∅ 0)
def waitPost (kv : S8x2x2x512x64.Idx → Elt F .bf16) (c : Dev nD) (x : Fin 8 × Fin 3) : sProp 𝕄 :=
  iprop(scPts c (chS x.1) (lendQ c x.2) kv ∗ atPos ER (sendCell c x.2 x.1) 1 ∅ 0)

theorem wp_waitL (c : Dev nD) {α : Type} {Q : α → sProp 𝕄} (p : Prog (TpuEff nD τ sig (Elt F) Λ₀ .tc) α) :
    ∀ l : List (Fin 8 × Fin 3), (∀ x ∈ l, dut (c, sK x.2 x.1) = {c}) →
      iprop(records kv K ∗ levAts L lv ∗ Ow c [] ∗ bigSepL l (waitPre (F := F) c) ∗ ((Ow c [] ∗ bigSepL l (waitPost kv c)) -∗ WP c p Q))
        ⊢ WP c (waitL l p) Q
  | [], _ => by
    unfold waitL
    iintro ⟨-, -, HO, -, Hk⟩
    iapply Hk
    isplitl [HO]; · iexact HO
    rw [show bigSepL [] (waitPost kv c) = (iprop(emp) : sProp 𝕄) from rfl]
    iempintro
  | x :: l, hl => by
    unfold waitL
    rw [show bigSepL (x :: l) (waitPre (F := F) c) = iprop(waitPre (F := F) c x ∗ bigSepL l (waitPre (F := F) c)) from bigSepL_cons ..,
      show bigSepL (x :: l) (waitPost kv c) = iprop(waitPost kv c x ∗ bigSepL l (waitPost kv c)) from bigSepL_cons ..]
    iintro ⟨#HR, #Hlev, HO, ⟨Hx, Hl⟩, Hk⟩
    ihave Hx := (Entails.of_eq (show waitPre (F := F) c x = iprop(cred (tallyAt (sendCell c x.2 x.1) () N) ∗ atPos ER (sendCell c x.2 x.1) 0 ∅ 0) from rfl)) $$ Hx
    icases Hx with ⟨Hc, Hat⟩
    iapply (step_wait (kv := kv) (K := K) (h := x.1) c c (sK x.2 x.1) (sK_ne _ _) (hl x List.mem_cons_self) []
      (mayWait_list c _ [] 0 (le_of_eq (lv_send c x.2 x.1)) fun _ h => absurd h List.not_mem_nil) (sSem_eq _ _).symm rfl) $$ [HO Hc Hat]
    · isplitr; · iexact HR
      isplitr; · iexact Hlev
      isplitl [Hc]; · iexact Hc
      isplitl [HO]; · iexact HO
      iexact Hat
    iintro ⟨HO, Hat, Hp⟩
    ihave Hp := (Entails.of_eq (pay_send kv c x.2 x.1 c)) $$ Hp
    iapply (wp_waitL c p l fun y hy => hl y (List.mem_cons_of_mem _ hy))
    isplitr; · iexact HR
    isplitr; · iexact Hlev
    isplitl [HO]; · iexact HO
    isplitl [Hl]; · iexact Hl
    iintro ⟨HO, Hps⟩
    iapply Hk
    isplitl [HO]; · iexact HO
    isplitl [Hp Hat]
    · unfold waitPost
      isplitl [Hp]; · iexact Hp
      iexact Hat
    iexact Hps

/-! ## The two printed branches -/

theorem waits20 : at_ (k0_part20 (F := F)) = waitL [(0, 0), (0, 1)] (.ret ⟨⟩) := rfl
theorem waits21 : at_ (k0_part21 (F := F)) = waitL [(0, 2), (1, 0), (1, 1)] (.ret ⟨⟩) := rfl
theorem waits22 : at_ (k0_part22 (F := F)) = waitL [(1, 2), (2, 0), (2, 1)] (.ret ⟨⟩) := rfl
theorem waits23 : at_ (k0_part23 (F := F)) = waitL [(2, 2), (3, 0)] (.ret ⟨⟩) := rfl
theorem waits24 : at_ (k0_part24 (F := F)) = waitL [(3, 1), (3, 2), (4, 0)] (.ret ⟨⟩) := rfl
theorem waits25 : at_ (k0_part25 (F := F)) = waitL [(4, 1), (4, 2), (5, 0)] (.ret ⟨⟩) := rfl
theorem waits26 : at_ (k0_part26 (F := F)) = waitL [(5, 1), (5, 2), (6, 0)] (.ret ⟨⟩) := rfl
theorem waits27 : at_ (k0_part27 (F := F)) = waitL [(6, 1), (6, 2)] (.ret ⟨⟩) := rfl
theorem waits28 (v : BitVec 32) : at_ (k0_part28 (F := F)) v = waitL [(0, 0), (1, 0)] (.ret ⟨⟩) := rfl
theorem waits29 (v : BitVec 32) : at_ (k0_part29 (F := F)) v = waitL [(2, 0), (3, 0)] (.ret ⟨⟩) := rfl
theorem waits30 (v : BitVec 32) : at_ (k0_part30 (F := F)) v = waitL [(4, 0), (5, 0)] (.ret ⟨⟩) := rfl

theorem root_waits {α : Type} (p : Prog (TpuEff nD τ sig (Elt F) Λ₀ .tc) α) :
    (do
      at_ (k0_part20 (F := F)); at_ k0_part21; at_ k0_part22; at_ k0_part23; at_ k0_part24; at_ k0_part25; at_ k0_part26; at_ k0_part27
      waitL [(7, 0), (7, 1), (7, 2)] p) = waitL allSends p := by
  rw [waits20, waits21, waits22, waits23, waits24, waits25, waits26, waits27]
  simp only [waitL_bind, ret_bind, waitL_append]
  rfl

theorem inner_waits {α : Type} (v : BitVec 32) (p : Prog (TpuEff nD τ sig (Elt F) Λ₀ .tc) α) :
    (do
      at_ (k0_part28 (F := F)) v; at_ k0_part29 v; at_ k0_part30 v
      waitL [(6, 0), (7, 0)] p) = waitL oneSends p := by
  rw [waits28, waits29, waits30]
  simp only [waitL_bind, ret_bind, waitL_append]
  rfl

/-! ## What the waits leave -/

/-- The send cells of head `h` on device `c`, row `r` at round `e r`. -/
def sendPos (c : Dev nD) (h : Fin 8) (e : Fin 3 → ℕ) : sProp 𝕄 :=
  iprop(atPos ER (sendCell c 0 h) (e 0) ∅ 0 ∗ atPos ER (sendCell c 1 h) (e 1) ∅ 0 ∗ atPos ER (sendCell c 2 h) (e 2) ∅ 0)

/-- The rounds the send cells of device `c` reach. -/
def sent (c : Dev nD) (r : Fin 3) : ℕ := if r.val < (kids c).length then 1 else 0

/-- Head `h` with nothing of it under way any more. -/
def drained (kv : S8x2x2x512x64.Idx → Elt F .bf16) (c : Dev nD) (h : Fin 8) : sProp 𝕄 :=
  iprop(scPts c (chS h) fullShare kv ∗ (if c = 0 then iprop(emp) else atPos ER (recvCell c h) 1 ∅ 0) ∗ sendPos c h (sent c))

/-- Head `h` when the send waits begin. -/
def undrained (kv : S8x2x2x512x64.Idx → Elt F .bf16) (c : Dev nD) (h : Fin 8) : sProp 𝕄 :=
  iprop(ready kv c h ∗ sendPos c h fun _ => 0)

theorem kids_leaf : ∀ c : Dev nD, c ≠ 0 → ¬ inner c → kids c = [] := by decide

theorem wp_root_waits (c : Dev nD) (b : BitVec 1) (hb : b = 1#1 ↔ c = 0) {α : Type} {Q : α → sProp 𝕄}
    {T : b = 1#1 → Prog (TpuEff nD τ sig (Elt F) Λ₀ .tc) α} {p : Prog (TpuEff nD τ sig (Elt F) Λ₀ .tc) α} (hT : ∀ h, T h = waitL allSends p) :
    iprop(records kv K ∗ levAts L lv ∗ Ow c [] ∗ bigSep Finset.univ (undrained kv c)
        ∗ ((Ow c [] ∗ bigSep Finset.univ (if c = 0 then drained kv c else undrained kv c)) -∗ WP c p Q))
      ⊢ WP c (if h : b = 1#1 then T h else p) Q := by
  by_cases h0 : c = 0
  · subst h0
    rw [dif_pos (hb.mpr rfl), hT, if_pos rfl]
    have e1 : ∀ h : Fin 8, undrained kv 0 h ⊢ iprop(scPts 0 (chS h) (keepQ 0) kv ∗ waitPre (F := F) 0 (h, 0) ∗ waitPre (F := F) 0 (h, 1) ∗ waitPre (F := F) 0 (h, 2)) := by
      intro h
      unfold undrained ready after sendPos waitPre sendCred
      rw [if_pos rfl]
      iintro ⟨⟨Hs, C0, C1, C2⟩, A0, A1, A2⟩
      isplitl [Hs]; · iexact Hs
      isplitl [C0 A0]
      · isplitl [C0]; · iexact C0
        iexact A0
      isplitl [C1 A1]
      · isplitl [C1]; · iexact C1
        iexact A1
      isplitl [C2]; · iexact C2
      iexact A2
    have e2 : ∀ h : Fin 8, iprop(scPts 0 (chS h) (keepQ 0) kv ∗ waitPost kv 0 (h, 0) ∗ waitPost kv 0 (h, 1) ∗ waitPost kv 0 (h, 2)) ⊢ drained kv 0 h := by
      intro h
      unfold drained sendPos waitPost
      rw [if_pos rfl, show sent 0 0 = 1 from rfl, show sent 0 1 = 1 from rfl, show sent 0 2 = 1 from rfl]
      iintro ⟨Hs, ⟨C0, A0⟩, ⟨C1, A1⟩, C2, A2⟩
      isplitl [Hs C0 C1 C2]
      · iapply (root_shares (chS h) kv).2
        isplitl [C0]; · iexact C0
        isplitl [C1]; · iexact C1
        isplitl [C2]; · iexact C2
        iexact Hs
      isplitr; · iempintro
      isplitl [A0]; · iexact A0
      isplitl [A1]; · iexact A1
      iexact A2
    iintro ⟨#HR, #Hlev, HO, H, Hk⟩
    ihave H := (mono8 e1) $$ H
    ihave H := (Entails.of_eq (bigSep_sep' Finset.univ (fun h => scPts 0 (chS h) (keepQ 0) kv)
      fun h => iprop(waitPre (F := F) 0 (h, 0) ∗ waitPre (F := F) 0 (h, 1) ∗ waitPre (F := F) 0 (h, 2)))) $$ H
    icases H with ⟨Hs, H⟩
    ihave H := (Entails.of_eq (bigSep_sends (waitPre (F := F) 0)).symm) $$ H
    iapply (wp_waitL (kv := kv) (K := K) 0 p allSends fun x _ => dut_send_root _ _)
    isplitr; · iexact HR
    isplitr; · iexact Hlev
    isplitl [HO]; · iexact HO
    isplitl [H]; · iexact H
    iintro ⟨HO, H⟩
    iapply Hk
    isplitl [HO]; · iexact HO
    ihave H := (Entails.of_eq (bigSep_sends (waitPost kv 0))) $$ H
    iapply (mono8 e2)
    rw [bigSep_sep' Finset.univ (fun h => scPts 0 (chS h) (keepQ 0) kv)
      fun h => iprop(waitPost kv 0 (h, 0) ∗ waitPost kv 0 (h, 1) ∗ waitPost kv 0 (h, 2))]
    isplitl [Hs]; · iexact Hs
    iexact H
  · rw [dif_neg fun hb' => h0 (hb.mp hb'), if_neg h0]
    iintro ⟨-, -, HO, H, Hk⟩
    iapply Hk
    isplitl [HO]; · iexact HO
    iexact H

theorem wp_inner_waits (c : Dev nD) (b : BitVec 1) (hb : b = 1#1 ↔ inner c) {α : Type} {Q : α → sProp 𝕄}
    {T : b = 1#1 → Prog (TpuEff nD τ sig (Elt F) Λ₀ .tc) α} {p : Prog (TpuEff nD τ sig (Elt F) Λ₀ .tc) α} (hT : ∀ h, T h = waitL oneSends p) :
    iprop(records kv K ∗ levAts L lv ∗ Ow c [] ∗ bigSep Finset.univ (if c = 0 then drained kv c else undrained kv c)
        ∗ ((Ow c [] ∗ bigSep Finset.univ (drained kv c)) -∗ WP c p Q))
      ⊢ WP c (if h : b = 1#1 then T h else p) Q := by
  by_cases hi : inner c
  · have h0 : c ≠ 0 := inner_ne hi
    rw [dif_pos (hb.mpr hi), hT, if_neg h0]
    have hk : (kids c).length = 1 := by rw [kids_inner hi]; rfl
    have s0 : sent c 0 = 1 := by unfold sent; rw [hk]; rfl
    have s1 : sent c 1 = 0 := by unfold sent; rw [hk]; rfl
    have s2 : sent c 2 = 0 := by unfold sent; rw [hk]; rfl
    have e1 : ∀ h : Fin 8, undrained kv c h ⊢ iprop((scPts c (chS h) (keepQ c) kv ∗ atPos ER (recvCell c h) 1 ∅ 0
        ∗ atPos ER (sendCell c 1 h) 0 ∅ 0 ∗ atPos ER (sendCell c 2 h) 0 ∅ 0) ∗ waitPre (F := F) c (h, 0)) := by
      intro h
      unfold undrained ready after sendPos waitPre
      rw [if_neg h0, if_pos hi]
      iintro ⟨⟨Hs, C0, Ar⟩, A0, A1, A2⟩
      isplitr [C0 A0]
      · isplitl [Hs]; · iexact Hs
        isplitl [Ar]; · iexact Ar
        isplitl [A1]; · iexact A1
        iexact A2
      isplitl [C0]; · iexact C0
      iexact A0
    have e2 : ∀ h : Fin 8, iprop((scPts c (chS h) (keepQ c) kv ∗ atPos ER (recvCell c h) 1 ∅ 0
        ∗ atPos ER (sendCell c 1 h) 0 ∅ 0 ∗ atPos ER (sendCell c 2 h) 0 ∅ 0) ∗ waitPost kv c (h, 0)) ⊢ drained kv c h := by
      intro h
      unfold drained sendPos waitPost
      rw [if_neg h0, s0, s1, s2, keep_inner c hi, lend_inner c h0]
      iintro ⟨⟨Hs, Ar, A1, A2⟩, C0, A0⟩
      isplitl [Hs C0]
      · iapply (halves c (chS h) fullShare kv).2
        isplitl [C0]; · iexact C0
        iexact Hs
      isplitl [Ar]; · iexact Ar
      isplitl [A0]; · iexact A0
      isplitl [A1]; · iexact A1
      iexact A2
    iintro ⟨#HR, #Hlev, HO, H, Hk⟩
    ihave H := (mono8 e1) $$ H
    ihave H := (Entails.of_eq (bigSep_sep' Finset.univ (fun h => iprop(scPts c (chS h) (keepQ c) kv ∗ atPos ER (recvCell c h) 1 ∅ 0
        ∗ atPos ER (sendCell c 1 h) 0 ∅ 0 ∗ atPos ER (sendCell c 2 h) 0 ∅ 0)) fun h => waitPre (F := F) c (h, 0))) $$ H
    icases H with ⟨Hs, H⟩
    ihave H := (Entails.of_eq (bigSep_oneSends (waitPre (F := F) c)).symm) $$ H
    iapply (wp_waitL (kv := kv) (K := K) c p oneSends fun x hx => by
      obtain ⟨h, -, rfl⟩ := List.mem_map.mp hx; exact dut_send_inner c h hi)
    isplitr; · iexact HR
    isplitr; · iexact Hlev
    isplitl [HO]; · iexact HO
    isplitl [H]; · iexact H
    iintro ⟨HO, H⟩
    iapply Hk
    isplitl [HO]; · iexact HO
    ihave H := (Entails.of_eq (bigSep_oneSends (waitPost kv c))) $$ H
    iapply (mono8 e2)
    rw [bigSep_sep' Finset.univ (fun h => iprop(scPts c (chS h) (keepQ c) kv ∗ atPos ER (recvCell c h) 1 ∅ 0
        ∗ atPos ER (sendCell c 1 h) 0 ∅ 0 ∗ atPos ER (sendCell c 2 h) 0 ∅ 0)) fun h => waitPost kv c (h, 0)]
    isplitl [Hs]; · iexact Hs
    iexact H
  · rw [dif_neg fun hb' => hi (hb.mp hb')]
    have e : bigSep Finset.univ (if c = 0 then drained kv c else undrained kv c) ⊢ bigSep Finset.univ (drained kv c) := by
      by_cases h0 : c = 0
      · rw [if_pos h0]
      · rw [if_neg h0]
        refine bigSep_mono fun h _ => ?_
        have hk : kids c = [] := kids_leaf c h0 hi
        have s : ∀ r, sent c r = 0 := fun r => by unfold sent; rw [hk]; rfl
        unfold drained undrained ready after sendPos
        rw [if_neg h0, if_neg h0, if_neg hi, s, s, s, keep_leaf c h0 hi]
        show iprop((scPts c (chS h) fullShare kv ∗ emp ∗ _) ∗ _) ⊢ iprop(_ ∗ _ ∗ _)
        iintro ⟨⟨Hs, -, Ar⟩, A⟩
        isplitl [Hs]; · iexact Hs
        isplitl [Ar]; · iexact Ar
        iexact A
    iintro ⟨-, -, HO, H, Hk⟩
    ihave H := e $$ H
    iapply Hk
    isplitl [HO]; · iexact HO
    iexact H

end Cert.KernelIdeal.Tree
-- ==== Proof.Start.lean ====
module

public import proofs.«01_k».proof.Proof.Tail

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # From the barrier to the first head -/

/-- The tokens with which device `c` pays for its transfers of head `h`. -/
def toks (c : Dev nD) (h : Fin 8) : sProp 𝕄 :=
  if c = 0 then
    iprop((dutyTok ER (sendCell 0 0 h) 0 0 ∗ dutyTok ER (recvCell (rkid 0) h) 0 0) ∗ (dutyTok ER (sendCell 0 1 h) 0 0 ∗ dutyTok ER (recvCell (rkid 1) h) 0 0)
      ∗ (dutyTok ER (sendCell 0 2 h) 0 0 ∗ dutyTok ER (recvCell (rkid 2) h) 0 0))
  else if inner c then iprop(dutyTok ER (sendCell c 0 h) 0 c ∗ dutyTok ER (recvCell (kid c) h) 0 c) else iprop(emp)

/-- What device `c` waits with for head `h`; the root waits for nothing. -/
def recvRes (c : Dev nD) (h : Fin 8) : sProp 𝕄 :=
  if c = 0 then iprop(emp) else iprop(cred (tallyAt (recvCell c h) () N) ∗ atPos ER (recvCell c h) 0 ∅ 0)

/-- The scratch buffers the barrier handed to device `c`: its children's. -/
def bufs (c : Dev nD) : sProp 𝕄 :=
  bigSep (nbrs c).toFinset fun d => if d ∈ kids c then iprop(∃ f, scPts (F := F) d Finset.univ fullShare f) else iprop(emp)

/-- A whole buffer, chunk by chunk. -/
theorem buf_chunks (d : Dev nD) : (iprop(∃ f, scPts (F := F) d Finset.univ fullShare f) : sProp 𝕄)
    ⊢ bigSep Finset.univ fun h => iprop(∃ f, scPts (F := F) d (chS h) fullShare f) := by
  iintro ⟨%f, H⟩
  ihave H := (Entails.of_eq (chunks d fullShare f)) $$ H
  iapply (mono8 (Φ := fun h => scPts d (chS h) fullShare f) (Ψ := fun h => iprop(∃ f, scPts (F := F) d (chS h) fullShare f)) fun h => by
    iintro H
    iexists _
    iexact H) $$ H

theorem bufs_root : bufs (F := F) 0 = iprop((∃ f, scPts (F := F) (rkid 0) Finset.univ fullShare f) ∗ (∃ f, scPts (F := F) (rkid 1) Finset.univ fullShare f)
    ∗ (∃ f, scPts (F := F) (rkid 2) Finset.univ fullShare f)) := by
  unfold bufs
  exact (bigSep_eq_bigSepL [1, 3, 4] (by decide) _).trans rfl

theorem kid_mem {c : Dev nD} : inner c → kid c ∈ (nbrs c).toFinset ∧ kid c ∈ kids c := by revert c; decide

theorem bufs_inner (c : Dev nD) (hi : inner c) : bufs (F := F) c ⊢ bigSep Finset.univ fun h => iprop(∃ f, scPts (F := F) (kid c) (chS h) fullShare f) := by
  unfold bufs
  refine (pick (kid_mem hi).1 _).trans ?_
  rw [if_pos (kid_mem hi).2]
  exact buf_chunks (kid c)

/-- A device other than the root waits for its first head. -/
theorem await_start (c : Dev nD) (h0 : c ≠ 0) :
    iprop(bufs (F := F) c ∗ bigSep Finset.univ (toks (F := F) c) ∗ bigSep Finset.univ (recvRes (F := F) c)) ⊢ bigSep Finset.univ (await kv c) := by
  by_cases hi : inner c
  · have e : ∀ h : Fin 8, iprop((∃ f, scPts (F := F) (kid c) (chS h) fullShare f) ∗ toks (F := F) c h ∗ recvRes (F := F) c h) ⊢ await kv c h := by
      intro h
      unfold toks recvRes await fwdRes
      rw [if_neg h0, if_pos hi, if_neg h0, if_neg h0, if_pos hi]
      iintro ⟨Hb, Ht, Hc, Ha⟩
      isplitl [Hc]; · iexact Hc
      isplitl [Ha]; · iexact Ha
      isplitl [Hb]; · iexact Hb
      iexact Ht
    refine BIBase.Entails.trans ?_ (mono8 e)
    rw [bigSep_sep' Finset.univ (fun h => iprop(∃ f, scPts (F := F) (kid c) (chS h) fullShare f)) fun h => iprop(toks (F := F) c h ∗ recvRes (F := F) c h),
      bigSep_sep' Finset.univ (toks (F := F) c) (recvRes (F := F) c)]
    iintro ⟨Hb, Ht, Hr⟩
    isplitl [Hb]; · iapply (bufs_inner c hi) $$ Hb
    isplitl [Ht]; · iexact Ht
    iexact Hr
  · have e : ∀ h : Fin 8, recvRes (F := F) c h ⊢ await kv c h := by
      intro h
      unfold recvRes await fwdRes
      rw [if_neg h0, if_neg h0, if_neg hi]
      iintro ⟨Hc, Ha⟩
      isplitl [Hc]; · iexact Hc
      isplitl [Ha]; · iexact Ha
      iempintro
    refine BIBase.Entails.trans ?_ (mono8 e)
    iintro ⟨-, -, Hr⟩
    iexact Hr

/-- The root's transfers, ready to start: its buffer laid out, its children's at hand. -/
theorem root_start : iprop(scPts 0 Finset.univ fullShare kv ∗ bufs (F := F) 0 ∗ bigSep Finset.univ (toks (F := F) 0))
    ⊢ iprop(bigSepL allSends (sendRes kv) ∗ bigSep Finset.univ fun h => scPts 0 (chS h) (keepQ 0) kv) := by
  have e : ∀ h : Fin 8, iprop((scPts 0 (chS h) fullShare kv ∗ (∃ f, scPts (F := F) (rkid 0) (chS h) fullShare f) ∗ (∃ f, scPts (F := F) (rkid 1) (chS h) fullShare f)
      ∗ (∃ f, scPts (F := F) (rkid 2) (chS h) fullShare f)) ∗ toks (F := F) 0 h)
      ⊢ iprop((sendRes kv (h, 0) ∗ sendRes kv (h, 1) ∗ sendRes kv (h, 2)) ∗ scPts 0 (chS h) (keepQ 0) kv) := by
    intro h
    unfold toks sendRes
    rw [if_pos rfl]
    iintro ⟨⟨Hs, B0, B1, B2⟩, ⟨T0, R0⟩, ⟨T1, R1⟩, T2, R2⟩
    ihave Hs := (root_shares (chS h) kv).1 $$ Hs
    icases Hs with ⟨S0, S1, S2, Hs⟩
    isplitr [Hs]
    · isplitl [S0 B0 T0 R0]
      · isplitl [S0]; · iexact S0
        isplitl [B0]; · iexact B0
        isplitl [T0]; · iexact T0
        iexact R0
      isplitl [S1 B1 T1 R1]
      · isplitl [S1]; · iexact S1
        isplitl [B1]; · iexact B1
        isplitl [T1]; · iexact T1
        iexact R1
      isplitl [S2]; · iexact S2
      isplitl [B2]; · iexact B2
      isplitl [T2]; · iexact T2
      iexact R2
    iexact Hs
  rw [bigSep_sends (sendRes kv), bufs_root, chunks 0 fullShare kv,
    ← bigSep_sep' Finset.univ (fun h => iprop(sendRes kv (h, 0) ∗ sendRes kv (h, 1) ∗ sendRes kv (h, 2))) fun h => scPts 0 (chS h) (keepQ 0) kv]
  refine BIBase.Entails.trans ?_ (mono8 e)
  rw [bigSep_sep' Finset.univ (fun h => iprop(scPts 0 (chS h) fullShare kv ∗ (∃ f, scPts (F := F) (rkid 0) (chS h) fullShare f) ∗ (∃ f, scPts (F := F) (rkid 1) (chS h) fullShare f)
      ∗ (∃ f, scPts (F := F) (rkid 2) (chS h) fullShare f))) (toks (F := F) 0),
    bigSep_sep' Finset.univ (fun h => scPts 0 (chS h) fullShare kv) fun h => iprop((∃ f, scPts (F := F) (rkid 0) (chS h) fullShare f) ∗ (∃ f, scPts (F := F) (rkid 1) (chS h) fullShare f)
      ∗ (∃ f, scPts (F := F) (rkid 2) (chS h) fullShare f)),
    bigSep_sep' Finset.univ (fun h => iprop(∃ f, scPts (F := F) (rkid 0) (chS h) fullShare f)) fun h => iprop((∃ f, scPts (F := F) (rkid 1) (chS h) fullShare f)
      ∗ (∃ f, scPts (F := F) (rkid 2) (chS h) fullShare f)),
    bigSep_sep' Finset.univ (fun h => iprop(∃ f, scPts (F := F) (rkid 1) (chS h) fullShare f)) fun h => iprop(∃ f, scPts (F := F) (rkid 2) (chS h) fullShare f)]
  iintro ⟨Hs, ⟨B0, B1, B2⟩, Ht⟩
  isplitr [Ht]
  · isplitl [Hs]; · iexact Hs
    isplitl [B0]; · iapply (buf_chunks (rkid 0)) $$ B0
    isplitl [B1]; · iapply (buf_chunks (rkid 1)) $$ B1
    iapply (buf_chunks (rkid 2)) $$ B2
  iexact Ht

/-- The transfers started, the root's heads are ready. -/
theorem root_ready : iprop(bigSepL allSends (sendCred (F := F)) ∗ bigSep Finset.univ fun h => scPts 0 (chS h) (keepQ 0) kv) ⊢ bigSep Finset.univ (await kv 0) := by
  have e : ∀ h : Fin 8, iprop((sendCred (F := F) (h, 0) ∗ sendCred (F := F) (h, 1) ∗ sendCred (F := F) (h, 2)) ∗ scPts 0 (chS h) (keepQ 0) kv) ⊢ await kv 0 h := by
    intro h
    unfold await ready after
    rw [if_pos rfl, if_pos rfl]
    iintro ⟨Hc, Hs⟩
    isplitl [Hs]; · iexact Hs
    iexact Hc
  refine BIBase.Entails.trans ?_ (mono8 e)
  rw [bigSep_sends (sendCred (F := F)), ← bigSep_sep' Finset.univ (fun h => iprop(sendCred (F := F) (h, 0) ∗ sendCred (F := F) (h, 1) ∗ sendCred (F := F) (h, 2))) fun h => scPts 0 (chS h) (keepQ 0) kv]

theorem ord_lt : ∀ i : S8x2x2x512x64.Idx, ord i < 32 := by
  intro i
  unfold ord
  have h0 : (i 0).val < 8 := (i 0).isLt
  have h1 : (i 1).val < 2 := (i 1).isLt
  have h2 : (i 2).val < 2 := (i 2).isLt
  omega

theorem filled_all (c : Dev nD) (g : S8x2x2x512x64.Idx → Elt F .bf16) : filled c g 32 ⊢ scPts c Finset.univ fullShare g := by
  unfold filled
  iintro ⟨%f, %hf, H⟩
  rw [show f = g from funext fun i => hf i (ord_lt i)]
  iexact H

theorem filled_none (c : Dev nD) (g : S8x2x2x512x64.Idx → Elt F .bf16) : (iprop(∃ f, scPts (F := F) c Finset.univ fullShare f) : sProp 𝕄) ⊢ filled c g 0 := by
  unfold filled
  iintro ⟨%f, H⟩
  iexists f
  isplitr
  · ipureintro; exact fun i h => absurd h (Nat.not_lt_zero _)
  iexact H

theorem dues_root : dues 0 0 = allSends.map (fun x => (recvCell (rkid x.2) x.1, N)) ++ [] := by
  rfl

/-- The root's layout and transfers. -/
theorem wp_root (kb vb : S2x512x8x64.Idx → Elt F .bf16) {α : Type} {Q : α → sProp 𝕄} (p : Prog (TpuEff nD τ sig (Elt F) Λ₀ .tc) α) :
    iprop(records (kvOf kb vb) K ∗ Ow 0 (dues 0 0) ∗ layAt 0 kb vb 0 ∗ bufs (F := F) 0 ∗ bigSep Finset.univ (toks (F := F) 0)
        ∗ ((Ow 0 [] ∗ (((0 : Dev nD) : Thread nD τ).loc cc0_stg2_0 ↦{fullShare} kb) ∗ (((0 : Dev nD) : Thread nD τ).loc cc0_stg3_0 ↦{fullShare} vb)
            ∗ bigSep Finset.univ (await (kvOf kb vb) 0)) -∗ WP 0 p Q))
      ⊢ WP 0 (fillP 0 (fillP 1 (fillP 2 (fillP 3 (fillP 4 (fillP 5 (fillP 6 (fillP 7 (sendL allSends p))))))))) Q := by
  iintro ⟨#HR, HO, HL, Hb, Ht, Hk⟩
  iapply (wp_fillP 0 kb vb 0)
  isplitl [HL]; · iexact HL
  iintro HL
  iapply (wp_fillP 0 kb vb 1)
  isplitl [HL]; · iexact HL
  iintro HL
  iapply (wp_fillP 0 kb vb 2)
  isplitl [HL]; · iexact HL
  iintro HL
  iapply (wp_fillP 0 kb vb 3)
  isplitl [HL]; · iexact HL
  iintro HL
  iapply (wp_fillP 0 kb vb 4)
  isplitl [HL]; · iexact HL
  iintro HL
  iapply (wp_fillP 0 kb vb 5)
  isplitl [HL]; · iexact HL
  iintro HL
  iapply (wp_fillP 0 kb vb 6)
  isplitl [HL]; · iexact HL
  iintro HL
  iapply (wp_fillP 0 kb vb 7)
  isplitl [HL]; · iexact HL
  iintro HL
  ihave HL := (Entails.of_eq (show layAt 0 kb vb (4 * ((7 : Fin 8).val + 1)) = iprop((((0 : Dev nD) : Thread nD τ).loc cc0_stg2_0 ↦{fullShare} kb)
    ∗ (((0 : Dev nD) : Thread nD τ).loc cc0_stg3_0 ↦{fullShare} vb) ∗ filled 0 (kvOf kb vb) 32) from rfl)) $$ HL
  icases HL with ⟨HK, HV, Hf⟩
  ihave Hf := (filled_all 0 (kvOf kb vb)) $$ Hf
  ihave H := (root_start (kv := kvOf kb vb)) $$ [Hf Hb Ht]
  · isplitl [Hf]; · iexact Hf
    isplitl [Hb]; · iexact Hb
    iexact Ht
  icases H with ⟨Hs, Hkeep⟩
  ihave HO := (Entails.of_eq (congrArg (Ow 0) dues_root)) $$ HO
  iapply (wp_sendL (kv := kvOf kb vb) (K := K) p [] allSends)
  isplitr; · iexact HR
  isplitl [HO]; · iexact HO
  isplitl [Hs]; · iexact Hs
  iintro ⟨HO, Hc⟩
  iapply Hk
  isplitl [HO]; · iexact HO
  isplitl [HK]; · iexact HK
  isplitl [HV]; · iexact HV
  iapply (root_ready (kv := kvOf kb vb))
  isplitl [Hc]; · iexact Hc
  iexact Hkeep

theorem cond9 : ∀ c : Dev nD, k0_cond9 c = 1#1 ↔ c = 0 := by
  intro c; revert c; decide +kernel

/-- The root's branch, skipped by every other device. -/
theorem wp_root_branch (c : Dev nD) (b : BitVec 1) (hb : b = 1#1 ↔ c = 0) (kb vb : S2x512x8x64.Idx → Elt F .bf16) (hkv : c = 0 → kv = kvOf kb vb)
    {α : Type} {Q : α → sProp 𝕄} {T : b = 1#1 → Prog (TpuEff nD τ sig (Elt F) Λ₀ .tc) α} {p : Prog (TpuEff nD τ sig (Elt F) Λ₀ .tc) α}
    (hT : c = 0 → ∀ h, T h = fillP 0 (fillP 1 (fillP 2 (fillP 3 (fillP 4 (fillP 5 (fillP 6 (fillP 7 (sendL allSends p))))))))) :
    iprop(records kv K ∗ Ow c (dues c 0) ∗ ((c : Thread nD τ).loc cc0_stg2_0 ↦{fullShare} kb) ∗ ((c : Thread nD τ).loc cc0_stg3_0 ↦{fullShare} vb)
        ∗ (if c = 0 then iprop(∃ f, scPts (F := F) c Finset.univ fullShare f) else iprop(emp)) ∗ bufs (F := F) c
        ∗ bigSep Finset.univ (toks (F := F) c) ∗ bigSep Finset.univ (recvRes (F := F) c)
        ∗ ((Ow c (rem c 0) ∗ ((c : Thread nD τ).loc cc0_stg2_0 ↦{fullShare} kb) ∗ ((c : Thread nD τ).loc cc0_stg3_0 ↦{fullShare} vb)
            ∗ bigSep Finset.univ (await kv c)) -∗ WP c p Q))
      ⊢ WP c (if h : b = 1#1 then T h else p) Q := by
  by_cases h0 : c = 0
  · subst h0
    obtain rfl := hkv rfl
    rw [dif_pos (hb.mpr rfl), hT rfl, if_pos rfl, show rem (0 : Dev nD) 0 = [] from if_pos rfl]
    iintro ⟨HR, HO, HK, HV, Hs, Hb, Ht, -, Hk⟩
    iapply (wp_root (K := K) kb vb p)
    isplitl [HR]; · iexact HR
    isplitl [HO]; · iexact HO
    isplitl [HK HV Hs]
    · unfold layAt
      isplitl [HK]; · iexact HK
      isplitl [HV]; · iexact HV
      iapply (filled_none 0 (kvOf kb vb)) $$ Hs
    isplitl [Hb]; · iexact Hb
    isplitl [Ht]; · iexact Ht
    iexact Hk
  · rw [dif_neg fun h => h0 (hb.mp h), show rem c 0 = dues c 0 from if_neg h0]
    iintro ⟨-, HO, HK, HV, -, Hb, Ht, Hr, Hk⟩
    iapply Hk
    isplitl [HO]; · iexact HO
    isplitl [HK]; · iexact HK
    isplitl [HV]; · iexact HV
    iapply (await_start (kv := kv) c h0)
    isplitl [Hb]; · iexact Hb
    isplitl [Ht]; · iexact Ht
    iexact Hr

theorem zero3 : (![0, 0, 0] : Fin 3 → Nat) = fun _ => 0 := by decide
theorem zero2 : (![0, 0] : Fin 2 → Nat) = fun _ => 0 := by decide

theorem read_x (f : S2x512x768.Idx → Elt F .bf16) :
    (Memref.whole cc0_stg0_0 : Memref sig .tc .vmem S2x512x768 .bf16).view.readAt (Elt F) (Rect.unit (s := S2x512x768) ![0, 0, 0] S2x512x768.size inb_S2x512x768_S2x512x768_0_0_0).toLoadRect f = f :=
  Memref.readAt_unit_zero (Elt F) cc0_stg0_0 zero3 _ f
theorem read_wq (f : S768x512.Idx → Elt F .bf16) :
    (Memref.whole cc0_stg1_0 : Memref sig .tc .vmem S768x512 .bf16).view.readAt (Elt F) (Rect.unit (s := S768x512) ![0, 0] S768x512.size inb_S768x512_S768x512_0_0).toLoadRect f = f :=
  Memref.readAt_unit_zero (Elt F) cc0_stg1_0 zero2 _ f

theorem last_send {α : Type} (p : Prog (TpuEff nD τ sig (Elt F) Λ₀ .tc) α) :
    fillP 0 (fillP 1 (fillP 2 (fillP 3 (fillP 4 (fillP 5 (fillP 6 (fillP 7 (sendL (allSends.take 23) (sendL [(7, 2)] p)))))))))
      = fillP 0 (fillP 1 (fillP 2 (fillP 3 (fillP 4 (fillP 5 (fillP 6 (fillP 7 (sendL allSends p)))))))) := by
  rw [sendL_append]
  rfl

/-- The root's branch, then the queries. -/
theorem wp_part32 (c : Dev nD) (kb vb : S2x512x8x64.Idx → Elt F .bf16) (hkv : c = 0 → kv = kvOf kb vb)
    (x : S2x512x768.Idx → Elt F .bf16) (wq : S768x512.Idx → Elt F .bf16)
    {Q : (Σ' (_ : FVec F S1024x512 .bf16) (_ : IVec S512x512 32) (_ : IVec S512x512 32) (_ : BitVec 32) (_ : IVec S512x512 32) (_ : IVec S512x512 32), IVec S512x512 1) → sProp 𝕄} :
    iprop(records kv K ∗ Ow c (dues c 0) ∗ ((c : Thread nD τ).loc cc0_stg2_0 ↦{fullShare} kb) ∗ ((c : Thread nD τ).loc cc0_stg3_0 ↦{fullShare} vb)
        ∗ (if c = 0 then iprop(∃ f, scPts (F := F) c Finset.univ fullShare f) else iprop(emp)) ∗ bufs (F := F) c
        ∗ bigSep Finset.univ (toks (F := F) c) ∗ bigSep Finset.univ (recvRes (F := F) c)
        ∗ ((c : Thread nD τ).loc cc0_stg0_0 ↦{fullShare} x) ∗ ((c : Thread nD τ).loc cc0_stg1_0 ↦{fullShare} wq)
        ∗ ((Ow c (rem c 0) ∗ ((c : Thread nD τ).loc cc0_stg2_0 ↦{fullShare} kb) ∗ ((c : Thread nD τ).loc cc0_stg3_0 ↦{fullShare} vb)
            ∗ bigSep Finset.univ (await kv c) ∗ ((c : Thread nD τ).loc cc0_stg0_0 ↦{fullShare} x) ∗ ((c : Thread nD τ).loc cc0_stg1_0 ↦{fullShare} wq))
            -∗ Q ⟨k0_pay35 x wq, iota .tc S512x512 32 [0] iota_S512x512_d0_w32, k0_pay36, 64#32, k0_pay37, k0_pay38, k0_pay39⟩))
      ⊢ WP c (at_ (k0_part32 (F := F)) c) Q := by
  show _ ⊢ WP c (k0_part32 (F := F) _ _ _ _ _ _ _ _ _ _ _ _ _ _ _ _ _ _ c) Q
  rw [k0_part32_eq_skeleton]
  unfold k0_part32_skel
  simp (config := { zeta := false }) only [Prog.lift, Prog.bind_op, Prog.bind_ret, Prog.pure_eq_ret]
  iintro ⟨HR, HO, HK, HV, Hs, Hb, Ht, Hr, Hx, Hw, Hk⟩
  iapply (wp_root_branch (kv := kv) (K := K) c (k0_cond9 c) (cond9 c) kb vb hkv fun h0 h => by subst h0; exact (root_prog h _).trans (last_send _))
  isplitl [HR]; · iexact HR
  isplitl [HO]; · iexact HO
  isplitl [HK]; · iexact HK
  isplitl [HV]; · iexact HV
  isplitl [Hs]; · iexact Hs
  isplitl [Hb]; · iexact Hb
  isplitl [Ht]; · iexact Ht
  isplitl [Hr]; · iexact Hr
  iintro ⟨HO, HK, HV, HA⟩
  unfold WP
  iapply (wp_load 𝒱₀ (c : Thread nD τ) none Set.univ (m := Memref.whole cc0_stg0_0) (Finset.subset_univ _)) $$ [Hx]
  · iexact Hx
  iintro Hx
  iapply (wp_load 𝒱₀ (c : Thread nD τ) none Set.univ (m := Memref.whole cc0_stg1_0) (Finset.subset_univ _)) $$ [Hw]
  · iexact Hw
  iintro Hw
  rw [wp_ret, read_x, read_wq]
  imodintro
  iapply Hk
  isplitl [HO]; · iexact HO
  isplitl [HK]; · iexact HK
  isplitl [HV]; · iexact HV
  isplitl [HA]; · iexact HA
  isplitl [Hx]; · iexact Hx
  iexact Hw

end Cert.KernelIdeal.Tree
-- ==== Proof.Fund.lean ====
module

public import proofs.«01_k».proof.Proof.Start

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # What the devices are dealt: tokens, credits, positions -/

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-! ## The cells of a device, kind by kind -/

/-- The kinds of cell: the barrier, the send cells, the receive cells. -/
def kindOf : Unit ⊕ ((Fin 8 × Fin 3) ⊕ Fin 8) → CK
  | .inl _ => 0
  | .inr (.inl x) => sK x.2 x.1
  | .inr (.inr h) => rK h

theorem kindOf_bij : Function.Bijective kindOf := by decide +kernel

theorem cells_split (Φ : CK → sProp 𝕄) : bigSep Finset.univ Φ
    = iprop(Φ 0 ∗ bigSep Finset.univ (fun h : Fin 8 => iprop(Φ (sK 0 h) ∗ Φ (sK 1 h) ∗ Φ (sK 2 h))) ∗ bigSep Finset.univ (fun h : Fin 8 => Φ (rK h))) := by
  rw [bigSep_univ_equiv (Equiv.ofBijective kindOf kindOf_bij) Φ, bigSep_univ_sum, bigSep_univ_sum, bigSep_univ_prod]
  have e : ∀ h : Fin 8, bigSep Finset.univ (fun r : Fin 3 => Φ ((Equiv.ofBijective kindOf kindOf_bij) (Sum.inr (Sum.inl (h, r)))))
      = iprop(Φ (sK 0 h) ∗ Φ (sK 1 h) ∗ Φ (sK 2 h)) := fun h => bigSep_rows _
  rw [bigSep_congr (fun h _ => e h)]
  have e0 : bigSep Finset.univ (fun u : Unit => Φ ((Equiv.ofBijective kindOf kindOf_bij) (Sum.inl u))) = Φ 0 :=
    (bigSep_univ_eq_bigSepL [()] (by decide) (by decide) _).trans rfl
  rw [e0]
  rfl

/-! ## The tokens of a payer -/

/-- The cells device `c` pays. -/
def paid (c : Dev nD) : Finset (Dev nD × CK) := Finset.univ.filter fun ck => c ∈ dut ck

def tokAt (c : Dev nD) : Dev nD × CK ↪ GSem nD τ sig × ℕ × Dev nD :=
  ⟨fun ck => (kcell ck, 0, c), fun a b h => kcell_inj (congrArg Prod.fst h)⟩

def treeToks : Finset (GSem nD τ sig × ℕ × Dev nD) := Finset.univ.biUnion fun c : Dev nD => (paid c).map (tokAt c)

/-- The tokens of the payments device `c` makes. -/
def payToks (c : Dev nD) : sProp 𝕄 := bigSep (paid c) fun ck => dutyTok ER (kcell ck) 0 c

theorem treeToks_eq : bigSep treeToks (fun x => (dutyTok ER x.1 x.2.1 x.2.2 : sProp 𝕄)) = bigSep Finset.univ fun c => payToks (F := F) c := by
  unfold treeToks
  rw [bigSep_biUnion_eq Finset.univ _ _ fun c _ c' _ hn => ?_]
  · exact bigSep_congr fun c _ => bigSep_map _
  · rw [Finset.disjoint_left]
    intro x hx hx'
    rw [Finset.mem_map] at hx hx'
    obtain ⟨a, -, rfl⟩ := hx
    obtain ⟨b, -, h⟩ := hx'
    exact hn (congrArg (fun x : GSem nD τ sig × ℕ × Dev nD => x.2.2) h).symm

/-- The cells device `c` pays for head `h`, in the order its transfers name them. -/
def paidHead (c : Dev nD) (h : Fin 8) : List (Dev nD × CK) :=
  if c = 0 then [(0, sK 0 h), (rkid 0, rK h), (0, sK 1 h), (rkid 1, rK h), (0, sK 2 h), (rkid 2, rK h)]
  else if inner c then [(c, sK 0 h), (kid c, rK h)] else []

def barOf : Dev nD ↪ Dev nD × CK := ⟨fun d => (d, 0), fun a b h => congrArg Prod.fst h⟩

theorem paid_eq : ∀ c : Dev nD, paid c = (nbrs c).toFinset.map barOf ∪ Finset.univ.biUnion fun h => (paidHead c h).toFinset := by
  decide +kernel
theorem paid_disj : ∀ c : Dev nD, Disjoint ((nbrs c).toFinset.map barOf) (Finset.univ.biUnion fun h => (paidHead c h).toFinset) := by
  decide +kernel
theorem paidHead_disj : ∀ (c : Dev nD) (h : Fin 8), h ∈ Finset.univ → ∀ h', h' ∈ Finset.univ → h ≠ h' → Disjoint (paidHead c h).toFinset (paidHead c h').toFinset := by
  decide +kernel
theorem paidHead_nodup : ∀ (c : Dev nD) (h : Fin 8), (paidHead c h).Nodup := by decide +kernel

theorem paidHead_toks (c : Dev nD) (h : Fin 8) : bigSep (paidHead c h).toFinset (fun ck => (dutyTok ER (kcell ck) 0 c : sProp 𝕄)) ⊢ toks c h := by
  rw [bigSep_eq_bigSepL _ (paidHead_nodup c h)]
  unfold paidHead toks
  by_cases h0 : c = 0
  · subst h0
    rw [if_pos rfl, if_pos rfl]
    show iprop(dutyTok ER (sendCell 0 0 h) 0 0 ∗ dutyTok ER (recvCell (rkid 0) h) 0 0 ∗ dutyTok ER (sendCell 0 1 h) 0 0 ∗ dutyTok ER (recvCell (rkid 1) h) 0 0
      ∗ dutyTok ER (sendCell 0 2 h) 0 0 ∗ dutyTok ER (recvCell (rkid 2) h) 0 0) ⊢ _
    iintro ⟨H1, H2, H3, H4, H5, H6⟩
    isplitl [H1 H2]
    · isplitl [H1] <;> iassumption
    isplitl [H3 H4]
    · isplitl [H3] <;> iassumption
    isplitl [H5] <;> iassumption
  rw [if_neg h0, if_neg h0]
  by_cases hi : inner c
  · rw [if_pos hi, if_pos hi]
    exact BI.Entails.refl _
  · rw [if_neg hi, if_neg hi]
    exact BI.Entails.refl _

theorem payToks_split (c : Dev nD) : payToks (F := F) c ⊢ iprop(bigSep (nbrs c).toFinset (fun d => dutyTok ER (barCell d) 0 c) ∗ bigSep Finset.univ (toks c)) := by
  unfold payToks
  rw [paid_eq c, bigSep_union (paid_disj c), bigSep_biUnion_eq Finset.univ _ _ (fun h hh h' hh' => paidHead_disj c h hh h' hh')]
  rw [bigSep_map]
  exact sep_mono_right (bigSep_mono fun h _ => paidHead_toks c h)

/-! ## The launch credits -/

/-- The cells device `c` pays to its neighbours, in the order it pays them. -/
def keys (c : Dev nD) : List (Dev nD × CK) :=
  (nbrs c).map (fun d => (d, 0)) ++ (List.finRange 8).flatMap fun h => (kids c).map fun d => (d, rK h)

/-- The amount of one payment to a cell of kind `k`. -/
def amt (k : CK) : ℕ := if k = 0 then 1 else N

theorem pays_keys (c : Dev nD) : pays c = (keys c).map fun ck => (kcell ck, amt ck.2) := by
  unfold pays dues keys
  rw [List.map_append, List.map_map, List.map_flatMap]
  refine congr (congrArg _ rfl) ?_
  refine List.flatMap_congr fun h _ => ?_
  rw [List.map_map]
  refine List.map_congr_left fun d _ => ?_
  show (recvCell d h, N) = (kcell (d, rK h), amt (rK h))
  unfold amt
  rw [if_neg (rK_ne h)]

theorem owe_count (l : List (Dev nD × CK)) (ck : Dev nD × CK) :
    owe (l.map fun ck => (kcell ck, amt ck.2)) (kcell ck) () = l.count ck * amt ck.2 := by
  induction l with
  | nil => exact (Nat.zero_mul _).symm
  | cons x l ih =>
    show (owe (l.map fun ck => (kcell ck, amt ck.2)) + tallyAt (kcell x) () (amt x.2)) (kcell ck) () = _
    rw [Pi.add_apply, Finsupp.add_apply, tallyAt_apply, ih, List.count_cons]
    by_cases h : x = ck
    · subst h
      rw [if_pos ⟨rfl, rfl⟩, if_pos (beq_self_eq_true _), Nat.add_mul, Nat.one_mul]
    · rw [if_neg fun ⟨h', _⟩ => h (kcell_inj h').symm, if_neg fun h' => h (beq_iff_eq.mp h'), Nat.add_zero, Nat.add_zero]

theorem count_bar : ∀ c : Dev nD, ∑ d : Dev nD, (keys d).count (c, 0) = (nbrs c).length := by decide +kernel
theorem count_recv : ∀ (c : Dev nD) (h : Fin 8), c ≠ 0 → ∑ d : Dev nD, (keys d).count (c, rK h) = 1 := by decide +kernel

/-- What the devices owe at launch. -/
def O₀ (c : Dev nD) : CellTallies nD τ sig Unit := owe (pays c)

theorem launch_cell (ck : Dev nD × CK) :
    tallyOn (kcell ck) (launchCredit (Pipeline.owing O₀) 0 (kcell ck)) = (tallyAt (kcell ck) () ((∑ d : Dev nD, (keys d).count ck) * amt ck.2) : CellTallies nD τ sig Unit) := by
  unfold tallyAt
  refine congrArg _ (Finsupp.ext fun u => ?_)
  cases u
  rw [Pipeline.launchCredit_owing, Finsupp.single_eq_same, Finset.sum_mul]
  exact Finset.sum_congr rfl fun d _ => by unfold O₀; rw [pays_keys, owe_count]

theorem creds (c : Dev nD) : (Pipeline.launchCred O₀ c : sProp 𝕄)
    ⊢ iprop(cred (tallyAt (barCell c) () (nbrs c).length) ∗ bigSep Finset.univ (fun h => if c = 0 then iprop(emp) else cred (tallyAt (recvCell c h) () N))) := by
  unfold Pipeline.launchCred
  refine BIBase.Entails.trans (bigSep_subset (Finset.subset_univ (Finset.univ.map ⟨csem, csem_inj⟩))) ?_
  rw [bigSep_map, cells_split]
  iintro ⟨H1, -, H2⟩
  isplitl [H1]
  · have e := launch_cell (c, 0)
    rw [count_bar c, show amt (0 : CK) = 1 from rfl, Nat.mul_one] at e
    ihave H1 := (Entails.of_eq (congrArg (fun t => (cred t : sProp 𝕄)) e)) $$ H1
    iexact H1
  · have e : ∀ h : Fin 8, h ∈ Finset.univ → (cred (tallyOn (recvCell c h) (launchCredit (Pipeline.owing O₀) 0 (recvCell c h))) : sProp 𝕄)
        ⊢ (if c = 0 then iprop(emp) else cred (tallyAt (recvCell c h) () N)) := fun h _ => by
      by_cases h0 : c = 0
      · rw [if_pos h0]; iintro -; iempintro
      · rw [if_neg h0, launch_cell, count_recv c h h0, Nat.one_mul, show amt (rK h) = N from if_neg (rK_ne h)]
    have e2 : bigSep Finset.univ (fun h : Fin 8 => (cred (tallyOn (recvCell c h) (launchCredit (Pipeline.owing O₀) 0 (recvCell c h))) : sProp 𝕄))
        ⊢ bigSep Finset.univ (fun h : Fin 8 => if c = 0 then iprop(emp) else cred (tallyAt (recvCell c h) () N)) := bigSep_mono e
    iapply e2
    iexact H2

/-! ## The scratch buffer handed to the parent -/

theorem nbrs_up : ∀ c : Dev nD, c ≠ 0 → (nbrs c).toFinset = insert (par c) (kids c).toFinset := by decide
theorem up_notin : ∀ c : Dev nD, c ≠ 0 → par c ∉ (kids c).toFinset := by decide
theorem up_kid : ∀ c : Dev nD, c ≠ 0 → c ∈ kids (par c) := by decide
theorem kid_up : ∀ c d : Dev nD, d ∈ kids c → c ∉ kids d := by decide
theorem nbrs_root : (nbrs 0).toFinset = (kids 0).toFinset := by decide
theorem nbrs_nodup : ∀ c : Dev nD, (nbrs c).Nodup := by decide

theorem pay_kids (c : Dev nD) : iprop(emp) ⊢ bigSep (kids c).toFinset (fun d => pay (F := F) kv (d, 0) c) := by
  refine bigSep_intro_persistent fun d hd => ?_
  rw [pay_bar, if_neg (kid_up c d (List.mem_toFinset.mp hd))]

theorem pay_nbrs (c : Dev nD) : iprop(∃ f, scPts (F := F) c Finset.univ fullShare f)
    ⊢ iprop(bigSep (nbrs c).toFinset (fun d => pay kv (d, 0) c) ∗ (if c = 0 then iprop(∃ f, scPts (F := F) c Finset.univ fullShare f) else iprop(emp))) := by
  by_cases h0 : c = 0
  · subst h0
    rw [if_pos rfl, nbrs_root]
    iintro H
    isplitr
    · iapply (pay_kids (kv := kv) 0); iempintro
    iexact H
  · have e : bigSep (insert (par c) (kids c).toFinset) (fun d => pay (F := F) kv (d, 0) c) = iprop(pay kv (par c, 0) c ∗ bigSep (kids c).toFinset (fun d => pay (F := F) kv (d, 0) c)) :=
      bigSep_insert (List.mem_toFinset.not.mpr fun h => up_notin c h0 (List.mem_toFinset.mpr h))
    rw [if_neg h0, nbrs_up c h0, e, pay_bar, if_pos (up_kid c h0)]
    iintro H
    isplitl [H]
    · isplitl [H]; · iexact H
      iapply (pay_kids (kv := kv) c); iempintro
    iempintro

theorem bar_toks (c : Dev nD) : iprop(bigSep (nbrs c).toFinset (fun d => dutyTok ER (barCell d) 0 c) ∗ bigSep (nbrs c).toFinset (fun d => pay kv (d, 0) c))
    = (bigSepL (nbrs c) (fun d => iprop(dutyTok ER (barCell d) 0 c ∗ pay kv (d, 0) c)) : sProp 𝕄) := by
  rw [← bigSep_sep', bigSep_eq_bigSepL _ (nbrs_nodup c)]

end Cert.KernelIdeal.Tree
-- ==== Proof.Compute.lean ====
module

public import proofs.«01_k».proof.Proof.Start

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # The attention of one head of one batch entry, and the buffer that collects them -/

theorem slices_head (h : Fin 8) (b : Fin 2) : S1024x512.Slices ![512 * b.val, 64 * h.val] S512x64 := by revert h b; decide
theorem inb_head (h : Fin 8) (b : Fin 2) : ∀ a, (![512 * b.val, 64 * h.val] : Fin 2 → Nat) a + S512x64.size a ≤ S1024x512.size a := by revert h b; decide

/-- The block of the context that head `h` of batch entry `b` fills. -/
abbrev cbox (h : Fin 8) (b : Fin 2) : Rect S1024x512 := Rect.unit (s := S1024x512) ![512 * b.val, 64 * h.val] S512x64.size (inb_head h b)

/-- The attention of head `h` of batch entry `b`: queries `q`, block mask `m`, keys `k`, values `v`. -/
noncomputable def att (q : FVec F S1024x512 .bf16) (m : IVec S512x512 1) (h : Fin 8) (b : Fin 2) (k v : Vec F S1x1x1x512x64 .bf16) : FVec F S512x64 .bf16 :=
  have k' : FVec F S512x64 .bf16 := shapeCast S512x64 k shapeCasts_S1x1x1x512x64_S512x64
  have v' : FVec F S512x64 .bf16 := shapeCast S512x64 v shapeCasts_S1x1x1x512x64_S512x64
  have q' : FVec F S512x64 .bf16 := extractStridedSlice S512x64 ![512 * b.val, 64 * h.val] q (slices_head h b)
  have s : FVec F S512x512 .f32 := matmul dot_S512x64_S512x64_S512x512_1_1_0_0_n_n none q' k' (constant S512x512 .f32 0x00000000#32)
  have w : FVec F S512x512 .f32 := exp (select m s (broadcast S512x512 (Named.named κ "mask" 0xCE6E6B28#32)))
  have t : FVec F S512x1 .f32 := shapeCast S512x1 (multiReduction .add [1] S512 w 0x00000000#32 reduces_S512x512_S512 (.inl rfl) rfl) shapeCasts_S512_S512x1
  have o : FVec F S512x64 .f32 := matmul dot_S512x512_S512x64_S512x64_1_0_0_1_n_n none (truncf .bf16 w bitsLt_bf16_f32) v' (constant S512x64 .f32 0x00000000#32)
  have d : FVec F S512x1 .f32 := divf (broadcast S512x1 (Scalar.ofBits .f32 0x3F800000#32)) t
  shapeCast S512x64 (truncf .bf16 (mulf o (broadcastTo S512x64 d broadcasts_S512x1_S512x64)) bitsLt_bf16_f32) shapeCasts_S512x64_S512x64

/-- What a load of box `(h, s, b)` reads. -/
def boxAt (kv : S8x2x2x512x64.Idx → Elt F .bf16) (h : Fin 8) (s b : Fin 2) : Vec F S1x1x1x512x64 .bf16 := scM.view.readAt (Elt F) (box h s b).toLoadRect kv

/-- The block of the context at head `h`, batch entry `b`. -/
noncomputable def attAt (q : FVec F S1024x512 .bf16) (m : IVec S512x512 1) (kv : S8x2x2x512x64.Idx → Elt F .bf16) (h : Fin 8) (b : Fin 2) : FVec F S512x64 .bf16 :=
  att q m h b (boxAt kv h 0 b) (boxAt kv h 1 b)

/-- The whole context: row `512 b + p`, column `64 h + d` is entry `(p, d)` of its block. -/
noncomputable def ctx (q : FVec F S1024x512 .bf16) (m : IVec S512x512 1) (kv : S8x2x2x512x64.Idx → Elt F .bf16) : FVec F S1024x512 .bf16 := fun i =>
  attAt q m kv ⟨(i 1).val / 64, by have : (i 1).val < 512 := (i 1).isLt; omega⟩ ⟨(i 0).val / 512, by have : (i 0).val < 1024 := (i 0).isLt; omega⟩
    (ValueIdx.ix2 ⟨(i 0).val % 512, Nat.mod_lt _ (by norm_num)⟩ ⟨(i 1).val % 64, Nat.mod_lt _ (by norm_num)⟩)

/-- The order in which the blocks are stored. -/
def cord (i : S1024x512.Idx) : ℕ := 2 * ((i 1).val / 64) + (i 0).val / 512

abbrev cxM : Memref sig .tc .vmem S1024x512 .bf16 := Memref.whole cc0_scratch1

theorem mem_cbox (h : Fin 8) (b : Fin 2) (i : S1024x512.Idx) : i ∈ (cbox h b).set ↔ (i 1).val / 64 = h.val ∧ (i 0).val / 512 = b.val := by
  refine Rect.mem_set_unit.trans ?_
  constructor
  · intro H
    have h0 := H 0; have h1 := H 1
    have e0 : (![512 * b.val, 64 * h.val] : Fin 2 → Nat) 0 = 512 * b.val := rfl
    have e1 : (![512 * b.val, 64 * h.val] : Fin 2 → Nat) 1 = 64 * h.val := rfl
    have f0 : S512x64.size 0 = 512 := rfl
    have f1 : S512x64.size 1 = 64 := rfl
    omega
  · rintro ⟨H0, H1⟩ a
    fin_cases a
    · show 512 * b.val ≤ (i 0).val ∧ (i 0).val < 512 * b.val + 512; omega
    · show 64 * h.val ≤ (i 1).val ∧ (i 1).val < 64 * h.val + 64; omega

theorem ctx_cbox (q : FVec F S1024x512 .bf16) (m : IVec S512x512 1) (kv : S8x2x2x512x64.Idx → Elt F .bf16) (h : Fin 8) (b : Fin 2) (x : S512x64.Idx) :
    attAt q m kv h b x = ctx q m kv ((cbox h b).idx x) := by
  have h0 : (x 0).val < 512 := (x 0).isLt
  have h1 : (x 1).val < 64 := (x 1).isLt
  have e0 : ((cbox h b).idx x 0).val = 512 * b.val + (x 0).val := by
    show 512 * b.val + 1 * (x 0).val = _; omega
  have e1 : ((cbox h b).idx x 1).val = 64 * h.val + (x 1).val := by
    show 64 * h.val + 1 * (x 1).val = _; omega
  have g : ∀ (h' : Fin 8) (b' : Fin 2) (x' : S512x64.Idx), h' = h → b' = b → x' = x → attAt q m kv h b x = attAt q m kv h' b' x' := by
    rintro _ _ _ rfl rfl rfl; rfl
  refine g _ _ _ (Fin.ext ?_) (Fin.ext ?_) (funext fun a => Fin.ext ?_)
  · show ((cbox h b).idx x 1).val / 64 = h.val; rw [e1]; omega
  · show ((cbox h b).idx x 0).val / 512 = b.val; rw [e0]; omega
  · match a with
    | 0 => show ((cbox h b).idx x 0).val % 512 = (x 0).val; rw [e0]; omega
    | 1 => show ((cbox h b).idx x 1).val % 64 = (x 1).val; rw [e1]; omega

/-- Storing a block extends by it the part of the buffer that agrees with the context. -/
theorem write_cbox (q : FVec F S1024x512 .bf16) (m : IVec S512x512 1) (h : Fin 8) (b : Fin 2) (f : S1024x512.Idx → Elt F .bf16)
    (n : ℕ) (hn : n = 2 * h.val + b.val) (hf : ∀ i, cord i < n → f i = ctx q m kv i) :
    ∀ i, cord i < n + 1 → (cxM.access (cbox h b)).write (Elt F) f (attAt q m kv h b) Finset.univ i = ctx q m kv i := by
  intro i hi
  by_cases hm : i ∈ (cxM.access (cbox h b)).setOn Finset.univ
  · obtain ⟨x, hx, rfl⟩ := Finset.mem_map.mp hm
    exact (View.write_emb_of_mem (v := cxM.access (cbox h b)) (Val := Elt F) f (attAt q m kv h b) (Finset.mem_univ x)).trans (ctx_cbox q m kv h b x)
  · refine (View.write_of_not_mem (v := cxM.access (cbox h b)) (Val := Elt F) f (attAt q m kv h b) Finset.univ hm).trans (hf i ?_)
    replace hm : i ∉ (cbox h b).set := fun hc => hm ((congrArg (i ∈ ·) (View.set_slice_whole _ _)).mpr hc)
    have h0 : (i 0).val < 1024 := (i 0).isLt; have h1 : (i 1).val < 512 := (i 1).isLt
    have hb := b.isLt
    rw [mem_cbox] at hm
    unfold cord at hi ⊢
    omega

/-! ## The state between two operations -/

/-- The heads: those below `j` ready, those below `g` received. -/
def heads (kv : S8x2x2x512x64.Idx → Elt F .bf16) (c : Dev nD) (j g : ℕ) : sProp 𝕄 :=
  bigSep Finset.univ fun h : Fin 8 => if h.val < j then ready kv c h else if h.val < g then got kv c h else await kv c h

/-- The context buffer, its first `n` blocks stored. -/
def ctxTo (kv : S8x2x2x512x64.Idx → Elt F .bf16) (q : FVec F S1024x512 .bf16) (m : IVec S512x512 1) (c : Dev nD) (n : ℕ) : sProp 𝕄 :=
  iprop(∃ f : S1024x512.Idx → Elt F .bf16, ⌜∀ i, cord i < n → f i = ctx q m kv i⌝ ∗ ((c : Thread nD τ).loc cc0_scratch1 ↦{fullShare} f))

/-- The state while the heads are worked through. -/
def St (kv : S8x2x2x512x64.Idx → Elt F .bf16) (K : Dev nD × CK → ℕ) (q : FVec F S1024x512 .bf16) (m : IVec S512x512 1) (c : Dev nD) (j g n : ℕ) : sProp 𝕄 :=
  iprop(records kv K ∗ levAts L lv ∗ Ow c (rem c j) ∗ heads kv c j g ∗ ctxTo kv q m c n)

section Steps
variable {q : FVec F S1024x512 .bf16} {m : IVec S512x512 1} {c : Dev nD}

/-- One head taken out of the others, to be put back as what it has become. -/
theorem heads_take (h : Fin 8) (Φ Ψ : Fin 8 → sProp 𝕄) (e : ∀ h', h' ≠ h → Φ h' = Ψ h') :
    bigSep Finset.univ Φ ⊢ iprop(Φ h ∗ (Ψ h -∗ bigSep Finset.univ Ψ)) := by
  have e1 : ∀ Φ : Fin 8 → sProp 𝕄, bigSep Finset.univ Φ = iprop(Φ h ∗ bigSep (Finset.univ.erase h) Φ) := fun Φ => by
    refine (congrArg (fun s => bigSep s Φ) (Finset.insert_erase (Finset.mem_univ h)).symm).trans ?_
    exact bigSep_insert (Finset.notMem_erase h _)
  rw [e1 Φ, e1 Ψ, bigSep_congr fun h' hh => e h' (Finset.ne_of_mem_erase hh)]
  iintro ⟨H, Hr⟩
  isplitl [H]; · iexact H
  iintro H
  isplitl [H]; · iexact H
  iexact Hr

theorem to_recv {α : Type} {Q : α → sProp 𝕄} {R : sProp 𝕄} (h : Fin 8) {b : BitVec 1} (hb : b = 1#1 ↔ c ≠ 0) {n : ℕ}
    {sp : Space} {s : Shape} {e : EltTy} {src : Memref sig .tc sp s e} {dst : Memref sig .tc .vmem S2x2x512x64 .bf16}
    {w1 : src.view.WordExact} {w2 : dst.view.WordExact} {sm : DmaSem sig}
    {T : b = 1#1 → Prog (TpuEff nD τ sig (Elt F) Λ₀ .tc) α} {p : Prog (TpuEff nD τ sig (Elt F) Λ₀ .tc) α}
    (hT : ∀ h, T h = .op (.waitDma2 sm src dst w1 w2) fun _ => p) (hsm : csem (rK h) = .dma sm) (hdst : dst = chM h)
    (hk : iprop(St kv K q m c h.val (h.val + 1) n ∗ R) ⊢ WP c p Q) :
    iprop(St kv K q m c h.val h.val n ∗ R) ⊢ WP c (if h : b = 1#1 then T h else p) Q := by
  refine BIBase.Entails.trans ?_ (wp_recv (kv := kv) (K := K) c h h.val b hb hT hsm hdst)
  unfold St heads at hk ⊢
  iintro ⟨⟨#HR, #Hlev, HO, HH, HC⟩, HF⟩
  ihave HH := (heads_take h (fun h' : Fin 8 => if h'.val < h.val then ready kv c h' else if h'.val < h.val then got kv c h' else await kv c h')
    (fun h' : Fin 8 => if h'.val < h.val then ready kv c h' else if h'.val < h.val + 1 then got kv c h' else await kv c h') fun h' hh => by
      have : h'.val ≠ h.val := fun e => hh (Fin.ext e)
      have e : (h'.val < h.val + 1) ↔ h'.val < h.val := by omega
      simp only [e]) $$ HH
  rw [if_neg (Nat.lt_irrefl h.val), if_neg (Nat.lt_irrefl h.val), if_neg (Nat.lt_irrefl h.val), if_pos (Nat.lt_succ_self h.val)]
  icases HH with ⟨HA, HH⟩
  isplitr; · iexact HR
  isplitr; · iexact Hlev
  isplitl [HO]; · iexact HO
  isplitl [HA]; · iexact HA
  iintro ⟨HO, HG⟩
  iapply hk
  isplitr [HF]
  · isplitr; · iexact HR
    isplitr; · iexact Hlev
    isplitl [HO]; · iexact HO
    isplitl [HH HG]
    · iapply HH
      iexact HG
    iexact HC
  iexact HF

theorem to_fwd {α : Type} {Q : α → sProp 𝕄} {R : sProp 𝕄} (h : Fin 8) {b : BitVec 1} (hb : b = 1#1 ↔ inner c) {n : ℕ}
    {d : b = 1#1 → Dev nD} (hd : ∀ h, d h = kid c) {src dst : Memref sig .tc .vmem S2x2x512x64 .bf16}
    {w1 : src.view.WordExact} {w2 : dst.view.WordExact} {sS sR : DmaSem sig}
    {T : b = 1#1 → Prog (TpuEff nD τ sig (Elt F) Λ₀ .tc) α} {p : Prog (TpuEff nD τ sig (Elt F) Λ₀ .tc) α}
    (hT : ∀ h, T h = .op (.enqueueDma src (.remote (Dev.tc (d h) : Thread nD τ) dst (.dma sS)) (.dma sR) w1 w2 ⟨⟨rfl, Or.inl rfl⟩, trivial⟩) fun _ => p)
    (hsrc : src = chM h) (hdst : dst = chM h) (hS : SemLoc.dma sS = csem (sK 0 h)) (hR : SemLoc.dma sR = csem (rK h))
    (hk : iprop(St kv K q m c (h.val + 1) (h.val + 1) n ∗ R) ⊢ WP c p Q) :
    iprop(St kv K q m c h.val (h.val + 1) n ∗ R) ⊢ WP c (if h : b = 1#1 then T h else p) Q := by
  refine BIBase.Entails.trans ?_ (wp_fwd (kv := kv) (K := K) c h b hb hd hT hsrc hdst hS hR rfl)
  unfold St heads at hk ⊢
  iintro ⟨⟨#HR, #Hlev, HO, HH, HC⟩, HF⟩
  ihave HH := (heads_take h (fun h' : Fin 8 => if h'.val < h.val then ready kv c h' else if h'.val < h.val + 1 then got kv c h' else await kv c h')
    (fun h' : Fin 8 => if h'.val < h.val + 1 then ready kv c h' else if h'.val < h.val + 1 then got kv c h' else await kv c h') fun h' hh => by
      have : h'.val ≠ h.val := fun e => hh (Fin.ext e)
      have e : (h'.val < h.val + 1) ↔ h'.val < h.val := by omega
      simp only [e]) $$ HH
  rw [if_neg (Nat.lt_irrefl h.val), if_pos (Nat.lt_succ_self h.val), if_pos (Nat.lt_succ_self h.val)]
  icases HH with ⟨HA, HH⟩
  isplitr; · iexact HR
  isplitl [HO]; · iexact HO
  isplitl [HA]; · iexact HA
  iintro ⟨HO, HG⟩
  iapply hk
  isplitr [HF]
  · isplitr; · iexact HR
    isplitr; · iexact Hlev
    isplitl [HO]; · iexact HO
    isplitl [HH HG]
    · iapply HH
      iexact HG
    iexact HC
  iexact HF

theorem box_chunk (h : Fin 8) (s b : Fin 2) : scM.view.setOn (box h s b).toLoadRect.set ⊆ chS h := by
  have e : (scM.access (box h s b)).set ⊆ chS h := by
    intro i hi
    replace hi : i ∈ (box h s b).set := (congrArg (i ∈ ·) (View.set_slice_whole _ _)).mp hi
    rw [mem_chS]
    exact ((mem_box h s b i).mp hi).1
  rwa [View.set_slice] at e

/-- A load of a box of a ready head. -/
theorem to_load {α : Type} {Q : α → sProp 𝕄} {R : sProp 𝕄} (h : Fin 8) (s b : Fin 2) {j g n : ℕ} (hj : h.val < j) {w : scM.view.LoadsAt (box h s b).toLoadRect}
    {k : Vec F S1x1x1x512x64 .bf16 → Prog (TpuEff nD τ sig (Elt F) Λ₀ .tc) α}
    (hk : iprop(St kv K q m c j g n ∗ R) ⊢ WP c (k (boxAt kv h s b)) Q) :
    iprop(St kv K q m c j g n ∗ R) ⊢ WP c (.op (.load scM (box h s b).toLoadRect w) k) Q := by
  unfold St heads at hk ⊢
  unfold WP at hk ⊢
  iintro ⟨⟨#HR, #Hlev, HO, HH, HC⟩, HF⟩
  ihave HH := (heads_take h (fun h' : Fin 8 => if h'.val < j then ready kv c h' else if h'.val < g then got kv c h' else await kv c h')
    (fun h' : Fin 8 => if h'.val < j then ready kv c h' else if h'.val < g then got kv c h' else await kv c h') fun h' hh => rfl) $$ HH
  icases HH with ⟨HA, HH⟩
  ihave HA := (Entails.of_eq (show (if h.val < j then ready kv c h else if h.val < g then got kv c h else await kv c h) = iprop(scPts c (chS h) (keepQ c) kv ∗ after c h) from
    if_pos hj)) $$ HA
  icases HA with ⟨HA, HB⟩
  iapply (wp_load 𝒱₀ (c : Thread nD τ) none Set.univ (m := scM) (r := (box h s b).toLoadRect) (box_chunk h s b)) $$ [HA]
  · iexact HA
  iintro HA
  iapply hk
  isplitr [HF]
  · isplitr; · iexact HR
    isplitr; · iexact Hlev
    isplitl [HO]; · iexact HO
    isplitl [HH HA HB]
    · iapply HH
      rw [if_pos hj]
      unfold ready
      isplitl [HA]; · iexact HA
      iexact HB
    iexact HC
  iexact HF

/-- A load of the context buffer whose value is not used. -/
theorem to_idle {α : Type} {Q : α → sProp 𝕄} {R : sProp 𝕄} {j g n : ℕ} {r : LoadRect S1024x512} {w : cxM.view.LoadsAt r} {p : Prog (TpuEff nD τ sig (Elt F) Λ₀ .tc) α}
    (hk : iprop(St kv K q m c j g n ∗ R) ⊢ WP c p Q) :
    iprop(St kv K q m c j g n ∗ R) ⊢ WP c (.op (.load cxM r w) fun _ => p) Q := by
  unfold St ctxTo at hk ⊢
  unfold WP at hk ⊢
  iintro ⟨⟨#HR, #Hlev, HO, HH, ⟨%f, %hf, HC⟩⟩, HF⟩
  iapply (wp_load 𝒱₀ (c : Thread nD τ) none Set.univ (m := cxM) (Finset.subset_univ _)) $$ [HC]
  · iexact HC
  iintro HC
  iapply hk
  isplitr [HF]
  · isplitr; · iexact HR
    isplitr; · iexact Hlev
    isplitl [HO]; · iexact HO
    isplitl [HH]; · iexact HH
    iexists f
    isplitr; · ipureintro; exact hf
    iexact HC
  iexact HF

/-- The store of a block. -/
theorem to_store {α : Type} {Q : α → sProp 𝕄} {R : sProp 𝕄} (h : Fin 8) (b : Fin 2) {j g n : ℕ} (hn : n = 2 * h.val + b.val) {w3 : (cxM.access (cbox h b)).Stores Finset.univ}
    {w4 : (Finset.univ : Finset (cbox h b).shape.Idx) = Finset.univ ∨ ∀ a, (cbox h b).stride a = 1}
    {w : FVec F S512x64 .bf16} (hw : w = attAt q m kv h b) {p : Prog (TpuEff nD τ sig (Elt F) Λ₀ .tc) α}
    (hk : iprop(St kv K q m c j g (n + 1) ∗ R) ⊢ WP c p Q) :
    iprop(St kv K q m c j g n ∗ R) ⊢ WP c (.op (.store cxM (cbox h b) w Finset.univ w3 w4) fun _ => p) Q := by
  subst hw
  unfold St ctxTo at hk ⊢
  unfold WP at hk ⊢
  iintro ⟨⟨#HR, #Hlev, HO, HH, ⟨%f, %hf, HC⟩⟩, HF⟩
  iapply (wp_store 𝒱₀ (c : Thread nD τ) none Set.univ (m := cxM) (r := cbox h b) (Mk := Finset.univ) (Finset.subset_univ _)) $$ [HC]
  · iexact HC
  iintro HC
  iapply hk
  isplitr [HF]
  · isplitr; · iexact HR
    isplitr; · iexact Hlev
    isplitl [HO]; · iexact HO
    isplitl [HH]; · iexact HH
    iexists _
    isplitr; · ipureintro; exact write_cbox q m h b f n hn hf
    iexact HC
  iexact HF

end Steps

theorem to_done {c : Dev nD} {α : Type} {Q : α → sProp 𝕄} (a : α) {A : sProp 𝕄} (h : A ⊢ Q a) : A ⊢ WP c (.ret a) Q :=
  BIBase.Entails.trans h (wp_done c a Q)

end Cert.KernelIdeal.Tree
-- ==== Proof.Parts.lean ====
module

public import proofs.«01_k».proof.Proof.Compute

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # The heads, one stretch of the program after another

Each lemma carries the state across one printed stretch: a head's receive wait and its forwarding, the
loads of its keys and values, and the stores of its two blocks of context. -/

section Bits
/-- The bit "not the root". -/
theorem recv_bit (c : Dev nD) : Scalar.cmpi .ne (Scalar.extui (Scalar.cmpi .ne (place c) 0#32) : BitVec 32) 0#32 = 1#1 ↔ c ≠ 0 := by
  revert c; decide +kernel

/-- The bit "the root". -/
theorem root_bit (c : Dev nD) : Scalar.cmpi .ne (Scalar.extui (Scalar.cmpi .eq (place c) 0#32) : BitVec 32) 0#32 = 1#1 ↔ c = 0 := by
  revert c; decide +kernel

/-- The printed test for an inner device. -/
def innerW (c : Dev nD) : BitVec 1 :=
  Scalar.ori (Scalar.ori (Scalar.ori (Scalar.cmpi .eq (place c) 1#32) (Scalar.cmpi .eq (place c) 3#32)) (Scalar.cmpi .eq (place c) 4#32)) (Scalar.cmpi .eq (place c) 5#32)

theorem inner_bit (c : Dev nD) : Scalar.cmpi .ne (Scalar.extui (innerW c) : BitVec 32) 0#32 = 1#1 ↔ inner c := by
  revert c; decide +kernel

theorem cond11 (c : Dev nD) : k0_cond11 c = 1#1 ↔ inner c := by revert c; decide +kernel
theorem cond13 (c : Dev nD) : k0_cond13 c = 1#1 ↔ inner c := by revert c; decide +kernel
theorem cond15 (c : Dev nD) : k0_cond15 c = 1#1 ↔ inner c := by revert c; decide +kernel
theorem cond17 (c : Dev nD) : k0_cond17 c = 1#1 ↔ inner c := by revert c; decide +kernel
theorem cond19 (c : Dev nD) : k0_cond19 c = 1#1 ↔ inner c := by revert c; decide +kernel
theorem cond21 (c : Dev nD) : k0_cond21 c = 1#1 ↔ inner c := by revert c; decide +kernel
theorem cond23 (c : Dev nD) : k0_cond23 c = 1#1 ↔ inner c := by revert c; decide +kernel
theorem cond25 (c : Dev nD) : k0_cond25 c = 1#1 ↔ inner c := by revert c; decide +kernel

/-- The closed form in which every forwarding's device is printed is the child. -/
theorem next_kid {c : Dev nD} (hi : inner c) {n : ℕ} (hlt : n < nD) (hn : n = if c.val = 3 then 7 else c.val + 1) : (⟨n, hlt⟩ : Dev nD) = kid c := by
  have e : ∀ c : Dev nD, inner c → (if c.val = 3 then 7 else c.val + 1) = (kid c).val := by decide
  exact Fin.ext (hn.trans (e c hi))
end Bits

section Run
variable {q : FVec F S1024x512 .bf16} {m : IVec S512x512 1} (c : Dev nD)

theorem wp_part33 {R : sProp 𝕄} {v40 v65 v67 v70 : IVec S512x512 32} {v72 : IVec S512x512 1} {Q : (Σ' (_ : IVec S512x512 1) (_ : BitVec 1) (_ : FVec F S512x64 .bf16), FVec F S512x512 .f32) → sProp 𝕄}
    (hk : iprop(St kv K q m c 1 1 0 ∗ R) ⊢ Q ⟨k0_pay40 v40 v65 64#32 v67 v70 v72, innerW c, k0_pay41 (boxAt kv 0 1 0), k0_pay42 q (boxAt kv 0 0 0)⟩) :
    iprop(St kv K q m c 0 0 0 ∗ R) ⊢ WP c (at_ (k0_part33 (F := F)) c (place c) q v40 v65 64#32 v67 v70 v72) Q := by
  unfold at_
  rw [k0_part33_eq_skeleton]
  unfold k0_part33_skel
  simp (config := { zeta := false }) only [Prog.lift, Prog.bind_op, Prog.bind_ret, Prog.pure_eq_ret]
  refine to_recv 0 (recv_bit c) (fun h => rfl) rfl rfl ?_
  refine to_fwd 0 (cond11 c) (fun h => next_kid ((cond11 c).mp h) _ (k0_dev39_eq c)) (fun h => rfl) rfl rfl rfl rfl ?_
  refine to_load 0 0 0 (by decide) ?_
  refine to_load 0 1 0 (by decide) ?_
  exact to_done _ hk

theorem wp_part34 {R : sProp 𝕄} {Q : FVec F S512x64 .bf16 → sProp 𝕄}
    (hk : iprop(St kv K q m c 1 1 1 ∗ R) ⊢ Q (attAt q m kv 0 1)) :
    iprop(St kv K q m c 1 1 0 ∗ R) ⊢ WP c (at_ (k0_part34 (F := F)) q m (k0_pay41 (boxAt kv 0 1 0)) (k0_pay42 q (boxAt kv 0 0 0))) Q := by
  unfold at_
  rw [k0_part34_eq_skeleton]
  unfold k0_part34_skel
  simp (config := { zeta := false }) only [Prog.lift, Prog.bind_op, Prog.bind_ret, Prog.pure_eq_ret]
  refine to_idle ?_
  refine to_store 0 0 rfl rfl ?_
  refine to_load 0 0 1 (by decide) ?_
  refine to_load 0 1 1 (by decide) ?_
  refine to_idle ?_
  exact to_done _ hk

theorem wp_part35 {R : sProp 𝕄} {Q : FVec F S512x64 .bf16 → sProp 𝕄}
    (hk : iprop(St kv K q m c 2 2 3 ∗ R) ⊢ Q (k0_pay46 (boxAt kv 1 0 1))) :
    iprop(St kv K q m c 1 1 1 ∗ R) ⊢ WP c (at_ (k0_part35 (F := F)) c (place c) q m (innerW c) (attAt q m kv 0 1)) Q := by
  unfold at_
  rw [k0_part35_eq_skeleton]
  unfold k0_part35_skel
  simp (config := { zeta := false }) only [Prog.lift, Prog.bind_op, Prog.bind_ret, Prog.pure_eq_ret]
  refine to_store 0 1 rfl rfl ?_
  refine to_recv 1 (recv_bit c) (fun h => rfl) rfl rfl ?_
  refine to_fwd 1 (cond13 c) (fun h => next_kid ((cond13 c).mp h) _ (k0_dev40_eq c)) (fun h => rfl) rfl rfl rfl rfl ?_
  refine to_load 1 0 0 (by decide) ?_
  refine to_load 1 1 0 (by decide) ?_
  refine to_idle ?_
  refine to_store 1 0 rfl rfl ?_
  refine to_load 1 0 1 (by decide) ?_
  exact to_done _ hk

theorem wp_part36 {R : sProp 𝕄} {Q : (Σ' (_ : FVec F S512x64 .bf16), FVec F S512x512 .f32) → sProp 𝕄}
    (hk : iprop(St kv K q m c 3 3 4 ∗ R) ⊢ Q ⟨k0_pay48 (boxAt kv 2 1 0), k0_pay49 q m (boxAt kv 2 0 0)⟩) :
    iprop(St kv K q m c 2 2 3 ∗ R) ⊢ WP c (at_ (k0_part36 (F := F)) c (place c) q m (innerW c) (k0_pay46 (boxAt kv 1 0 1))) Q := by
  unfold at_
  rw [k0_part36_eq_skeleton]
  unfold k0_part36_skel
  simp (config := { zeta := false }) only [Prog.lift, Prog.bind_op, Prog.bind_ret, Prog.pure_eq_ret]
  refine to_load 1 1 1 (by decide) ?_
  refine to_idle ?_
  refine to_store 1 1 rfl rfl ?_
  refine to_recv 2 (recv_bit c) (fun h => rfl) rfl rfl ?_
  refine to_fwd 2 (cond15 c) (fun h => next_kid ((cond15 c).mp h) _ (k0_dev41_eq c)) (fun h => rfl) rfl rfl rfl rfl ?_
  refine to_load 2 0 0 (by decide) ?_
  refine to_load 2 1 0 (by decide) ?_
  exact to_done _ hk

theorem wp_part37 {R : sProp 𝕄} {Q : BitVec 32 → sProp 𝕄}
    (hk : iprop(St kv K q m c 3 3 6 ∗ R) ⊢ Q (Scalar.extui (Scalar.cmpi .ne (place c) 0#32))) :
    iprop(St kv K q m c 3 3 4 ∗ R) ⊢ WP c (at_ (k0_part37 (F := F)) (place c) q m (k0_pay48 (boxAt kv 2 1 0)) (k0_pay49 q m (boxAt kv 2 0 0))) Q := by
  unfold at_
  rw [k0_part37_eq_skeleton]
  unfold k0_part37_skel
  simp (config := { zeta := false }) only [Prog.lift, Prog.bind_op, Prog.bind_ret, Prog.pure_eq_ret]
  refine to_idle ?_
  refine to_store 2 0 rfl rfl ?_
  refine to_load 2 0 1 (by decide) ?_
  refine to_load 2 1 1 (by decide) ?_
  refine to_idle ?_
  refine to_store 2 1 rfl rfl ?_
  exact to_done _ hk

theorem wp_part38 {R : sProp 𝕄} {Q : (Σ' (_ : FVec F S512x64 .bf16), FVec F S512x64 .bf16) → sProp 𝕄}
    (hk : iprop(St kv K q m c 4 4 7 ∗ R) ⊢ Q ⟨k0_pay53 (boxAt kv 3 0 1), k0_pay54 (boxAt kv 3 1 1)⟩) :
    iprop(St kv K q m c 3 3 6 ∗ R) ⊢ WP c (at_ (k0_part38 (F := F)) c (place c) q m (innerW c) (Scalar.extui (Scalar.cmpi .ne (place c) 0#32))) Q := by
  unfold at_
  rw [k0_part38_eq_skeleton]
  unfold k0_part38_skel
  simp (config := { zeta := false }) only [Prog.lift, Prog.bind_op, Prog.bind_ret, Prog.pure_eq_ret]
  refine to_recv 3 (recv_bit c) (fun h => rfl) rfl rfl ?_
  refine to_fwd 3 (cond17 c) (fun h => next_kid ((cond17 c).mp h) _ (k0_dev42_eq c)) (fun h => rfl) rfl rfl rfl rfl ?_
  refine to_load 3 0 0 (by decide) ?_
  refine to_load 3 1 0 (by decide) ?_
  refine to_idle ?_
  refine to_store 3 0 rfl rfl ?_
  refine to_load 3 0 1 (by decide) ?_
  refine to_load 3 1 1 (by decide) ?_
  exact to_done _ hk

theorem wp_part39 {R : sProp 𝕄} {Q : (Σ' (_ : FVec F S512x64 .bf16) (_ : FVec F S512x1 .f32), FVec F S512x512 .bf16) → sProp 𝕄}
    (hk : iprop(St kv K q m c 5 5 8 ∗ R) ⊢ Q ⟨k0_pay56 (boxAt kv 4 1 0), k0_pay58 q m (boxAt kv 4 0 0), k0_pay59 q m (boxAt kv 4 0 0)⟩) :
    iprop(St kv K q m c 4 4 7 ∗ R) ⊢ WP c (at_ (k0_part39 (F := F)) c (place c) q m (innerW c) (k0_pay53 (boxAt kv 3 0 1)) (k0_pay54 (boxAt kv 3 1 1))) Q := by
  unfold at_
  rw [k0_part39_eq_skeleton]
  unfold k0_part39_skel
  simp (config := { zeta := false }) only [Prog.lift, Prog.bind_op, Prog.bind_ret, Prog.pure_eq_ret]
  refine to_idle ?_
  refine to_store 3 1 rfl rfl ?_
  refine to_recv 4 (recv_bit c) (fun h => rfl) rfl rfl ?_
  refine to_fwd 4 (cond19 c) (fun h => next_kid ((cond19 c).mp h) _ (k0_dev43_eq c)) (fun h => rfl) rfl rfl rfl rfl ?_
  refine to_load 4 0 0 (by decide) ?_
  refine to_load 4 1 0 (by decide) ?_
  exact to_done _ hk

theorem wp_part40 {R : sProp 𝕄} {Q : BitVec 32 → sProp 𝕄}
    (hk : iprop(St kv K q m c 5 6 10 ∗ R) ⊢ Q (Scalar.extui (innerW c))) :
    iprop(St kv K q m c 5 5 8 ∗ R) ⊢ WP c (at_ (k0_part40 (F := F)) (place c) q m (innerW c) (k0_pay56 (boxAt kv 4 1 0)) (k0_pay58 q m (boxAt kv 4 0 0)) (k0_pay59 q m (boxAt kv 4 0 0))) Q := by
  unfold at_
  rw [k0_part40_eq_skeleton]
  unfold k0_part40_skel
  simp (config := { zeta := false }) only [Prog.lift, Prog.bind_op, Prog.bind_ret, Prog.pure_eq_ret]
  refine to_idle ?_
  refine to_store 4 0 rfl rfl ?_
  refine to_load 4 0 1 (by decide) ?_
  refine to_load 4 1 1 (by decide) ?_
  refine to_idle ?_
  refine to_store 4 1 rfl rfl ?_
  refine to_recv 5 (recv_bit c) (fun h => rfl) rfl rfl ?_
  exact to_done _ hk

theorem wp_part41 {R : sProp 𝕄} {Q : (Σ' (_ : FVec F S512x64 .bf16) (_ : FVec F S512x512 .f32), F .f32) → sProp 𝕄}
    (hk : iprop(St kv K q m c 6 6 11 ∗ R) ⊢ Q ⟨k0_pay63 (boxAt kv 5 1 1), k0_pay64 q (boxAt kv 5 0 1), Named.named κ "mask" 0xCE6E6B28#32⟩) :
    iprop(St kv K q m c 5 6 10 ∗ R) ⊢ WP c (at_ (k0_part41 (F := F)) c (place c) q m (Scalar.extui (innerW c))) Q := by
  unfold at_
  rw [k0_part41_eq_skeleton]
  unfold k0_part41_skel
  simp (config := { zeta := false }) only [Prog.lift, Prog.bind_op, Prog.bind_ret, Prog.pure_eq_ret]
  refine to_fwd 5 (cond21 c) (fun h => next_kid ((cond21 c).mp h) _ (k0_dev44_eq c)) (fun h => rfl) rfl rfl rfl rfl ?_
  refine to_load 5 0 0 (by decide) ?_
  refine to_load 5 1 0 (by decide) ?_
  refine to_idle ?_
  refine to_store 5 0 rfl rfl ?_
  refine to_load 5 0 1 (by decide) ?_
  refine to_load 5 1 1 (by decide) ?_
  exact to_done _ hk

theorem wp_part42 {R : sProp 𝕄} {Q : (Σ' (_ : FVec F S512x1 .f32) (_ : FVec F S512x64 .f32), FVec F S512x1 .f32) → sProp 𝕄}
    (hk : iprop(St kv K q m c 7 7 12 ∗ R) ⊢ Q ⟨k0_pay67 q m (boxAt kv 6 0 0), k0_pay68 q m (boxAt kv 6 0 0) (boxAt kv 6 1 0), k0_pay69 (F := F)⟩) :
    iprop(St kv K q m c 6 6 11 ∗ R) ⊢ WP c (at_ (k0_part42 (F := F)) c (place c) q m (innerW c) (k0_pay63 (boxAt kv 5 1 1)) (k0_pay64 q (boxAt kv 5 0 1)) (Named.named κ "mask" 0xCE6E6B28#32)) Q := by
  unfold at_
  rw [k0_part42_eq_skeleton]
  unfold k0_part42_skel
  simp (config := { zeta := false }) only [Prog.lift, Prog.bind_op, Prog.bind_ret, Prog.pure_eq_ret]
  refine to_idle ?_
  refine to_store 5 1 rfl rfl ?_
  refine to_recv 6 (recv_bit c) (fun h => rfl) rfl rfl ?_
  refine to_fwd 6 (cond23 c) (fun h => next_kid ((cond23 c).mp h) _ (k0_dev45_eq c)) (fun h => rfl) rfl rfl rfl rfl ?_
  refine to_load 6 0 0 (by decide) ?_
  refine to_load 6 1 0 (by decide) ?_
  exact to_done _ hk

theorem wp_part43 {R : sProp 𝕄} {Q : PUnit → sProp 𝕄}
    (hk : iprop(St kv K q m c 8 8 14 ∗ R) ⊢ Q ⟨⟩) :
    iprop(St kv K q m c 7 7 12 ∗ R) ⊢ WP c (at_ (k0_part43 (F := F)) c (place c) q m (innerW c) (k0_pay67 q m (boxAt kv 6 0 0)) (k0_pay68 q m (boxAt kv 6 0 0) (boxAt kv 6 1 0)) (k0_pay69 (F := F))) Q := by
  unfold at_
  rw [k0_part43_eq_skeleton]
  unfold k0_part43_skel
  simp (config := { zeta := false }) only [Prog.lift, Prog.bind_op, Prog.bind_ret, Prog.pure_eq_ret]
  refine to_idle ?_
  refine to_store 6 0 rfl rfl ?_
  refine to_load 6 0 1 (by decide) ?_
  refine to_load 6 1 1 (by decide) ?_
  refine to_idle ?_
  refine to_store 6 1 rfl rfl ?_
  refine to_recv 7 (recv_bit c) (fun h => rfl) rfl rfl ?_
  refine to_fwd 7 (cond25 c) (fun h => next_kid ((cond25 c).mp h) _ (k0_dev46_eq c)) (fun h => rfl) rfl rfl rfl rfl ?_
  exact to_done _ hk

theorem wp_part44 {R : sProp 𝕄} {Q : (Σ' (_ : FVec F S512x64 .bf16), FVec F S512x512 .f32) → sProp 𝕄}
    (hk : iprop(St kv K q m c 8 8 15 ∗ R) ⊢ Q ⟨k0_pay73 (boxAt kv 7 1 1), k0_pay74 q m (boxAt kv 7 0 1)⟩) :
    iprop(St kv K q m c 8 8 14 ∗ R) ⊢ WP c (at_ (k0_part44 (F := F)) q m) Q := by
  unfold at_
  rw [k0_part44_eq_skeleton]
  unfold k0_part44_skel
  simp (config := { zeta := false }) only [Prog.lift, Prog.bind_op, Prog.bind_ret, Prog.pure_eq_ret]
  refine to_load 7 0 0 (by decide) ?_
  refine to_load 7 1 0 (by decide) ?_
  refine to_idle ?_
  refine to_store 7 0 rfl rfl ?_
  refine to_load 7 0 1 (by decide) ?_
  refine to_load 7 1 1 (by decide) ?_
  exact to_done _ hk

end Run

end Cert.KernelIdeal.Tree
-- ==== Proof.Body.lean ====
module

public import proofs.«01_k».proof.Proof.Parts

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # One device's run of the kernel -/

theorem to_then {c : Dev nD} {α β : Type} {A : sProp 𝕄} {Q : β → sProp 𝕄} {p : Prog (TpuEff nD τ sig (Elt F) Λ₀ .tc) α}
    {k : α → Prog (TpuEff nD τ sig (Elt F) Λ₀ .tc) β} (h : A ⊢ WP c p fun a => WP c (k a) Q) : A ⊢ WP c (p >>= k) Q := by
  unfold WP at h ⊢
  rw [wp_bind]
  exact h

theorem by_entails {A B : sProp 𝕄} (h : A ⊢ B) : A ⊢ B := h

/-- The block mask: column block at most row block. -/
noncomputable def maskV : IVec S512x512 1 :=
  k0_pay40 (iota .tc S512x512 32 [0] iota_S512x512_d0_w32) k0_pay36 64#32 k0_pay37 k0_pay38 k0_pay39

/-- What a device puts out: from its input, the query and output weights, and the root's keys and values. -/
noncomputable def outV (kv : S8x2x2x512x64.Idx → Elt F .bf16) (x : S2x512x768.Idx → Elt F .bf16) (wq : S768x512.Idx → Elt F .bf16)
    (wo : S512x768.Idx → Elt F .bf16) : S2x512x768.Idx → Elt F .f32 :=
  k0_pay2 (ctx (k0_pay35 x wq) maskV kv) wo

/-- The inputs as staged on device `c`. -/
def ins (c : Dev nD) (x : S2x512x768.Idx → Elt F .bf16) (wq : S768x512.Idx → Elt F .bf16) (kb vb : S2x512x8x64.Idx → Elt F .bf16)
    (wo : S512x768.Idx → Elt F .bf16) : sProp 𝕄 :=
  iprop(((c : Thread nD τ).loc cc0_stg0_0 ↦{fullShare} x) ∗ ((c : Thread nD τ).loc cc0_stg1_0 ↦{fullShare} wq)
    ∗ ((c : Thread nD τ).loc cc0_stg2_0 ↦{fullShare} kb) ∗ ((c : Thread nD τ).loc cc0_stg3_0 ↦{fullShare} vb)
    ∗ ((c : Thread nD τ).loc cc0_stg4_0 ↦{fullShare} wo))

/-- What device `c` starts its run with, its inputs and output apart. -/
def bodyPre (kv : S8x2x2x512x64.Idx → Elt F .bf16) (K : Dev nD × CK → ℕ) (c : Dev nD) : sProp 𝕄 :=
  iprop(records kv K ∗ levAts L lv ∗ barPre kv c ∗ (if c = 0 then iprop(∃ f, scPts (F := F) c Finset.univ fullShare f) else iprop(emp))
    ∗ bigSep Finset.univ (toks (F := F) c) ∗ bigSep Finset.univ (recvRes (F := F) c) ∗ bigSep Finset.univ (fun h => sendPos (F := F) c h fun _ => 0)
    ∗ (∃ f : S1024x512.Idx → Elt F .bf16, ((c : Thread nD τ).loc cc0_scratch1 ↦{fullShare} f)))

/-- What it ends its run with. -/
def bodyPost (kv : S8x2x2x512x64.Idx → Elt F .bf16) (c : Dev nD) : sProp 𝕄 :=
  iprop(Ow c [] ∗ atPos ER (barCell c) 1 ∅ 0 ∗ bigSep Finset.univ (drained kv c)
    ∗ (∃ f : S1024x512.Idx → Elt F .bf16, ((c : Thread nD τ).loc cc0_scratch1 ↦{fullShare} f)))

theorem heads_start (c : Dev nD) : bigSep Finset.univ (await kv c) = heads kv c 0 0 :=
  bigSep_congr fun h _ => ((if_neg (Nat.not_lt_zero _)).trans (if_neg (Nat.not_lt_zero _))).symm

theorem heads_end (c : Dev nD) : heads kv c 8 8 = bigSep Finset.univ (ready kv c) :=
  bigSep_congr fun h _ => if_pos h.isLt

theorem ctxTo_end (q : FVec F S1024x512 .bf16) (m : IVec S512x512 1) (c : Dev nD) : ctxTo kv q m c 16 ⊢ ((c : Thread nD τ).loc cc0_scratch1 ↦{fullShare} ctx q m kv) := by
  unfold ctxTo
  iintro ⟨%f, %hf, H⟩
  rw [show f = ctx q m kv from funext fun i => hf i (by
    have h0 : (i 0).val < 1024 := (i 0).isLt; have h1 : (i 1).val < 512 := (i 1).isLt
    unfold cord; omega)]
  iexact H

theorem read_ctx (f : S1024x512.Idx → Elt F .bf16) :
    (Memref.whole cc0_scratch1 : Memref sig .tc .vmem S1024x512 .bf16).view.readAt (Elt F) (Rect.unit (s := S1024x512) ![0, 0] S1024x512.size inb_S1024x512_S1024x512_0_0).toLoadRect f = f :=
  Memref.readAt_unit_zero (Elt F) cc0_scratch1 zero2 _ f
theorem read_wo (f : S512x768.Idx → Elt F .bf16) :
    (Memref.whole cc0_stg4_0 : Memref sig .tc .vmem S512x768 .bf16).view.readAt (Elt F) (Rect.unit (s := S512x768) ![0, 0] S512x768.size inb_S512x768_S512x768_0_0).toLoadRect f = f :=
  Memref.readAt_unit_zero (Elt F) cc0_stg4_0 zero2 _ f
theorem write_out (f w : S2x512x768.Idx → Elt F .f32) :
    ((Memref.whole cc0_stg5_0 : Memref sig .tc .vmem S2x512x768 .f32).access (Rect.unit (s := S2x512x768) ![0, 0, 0] S2x512x768.size inb_S2x512x768_S2x512x768_0_0_0) : View sig .tc _ _ _).write (Elt F) f w Finset.univ = w :=
  Memref.write_access_unit_zero_univ (Elt F) cc0_stg5_0 zero3 _ f w

/-- The stretch that turns the context into the output. -/
theorem to_out {c : Dev nD} {α : Type} {Q : α → sProp 𝕄} {R : sProp 𝕄} (q : FVec F S1024x512 .bf16) (wo : S512x768.Idx → Elt F .bf16) {w1 w2 w3 w4 w5}
    {p : Prog (TpuEff nD τ sig (Elt F) Λ₀ .tc) α}
    (hk : iprop((Ow c [] ∗ bigSep Finset.univ (ready kv c) ∗ (∃ f : S1024x512.Idx → Elt F .bf16, ((c : Thread nD τ).loc cc0_scratch1 ↦{fullShare} f))
      ∗ ((c : Thread nD τ).loc cc0_stg4_0 ↦{fullShare} wo) ∗ ((c : Thread nD τ).loc cc0_stg5_0 ↦{fullShare} k0_pay2 (ctx q maskV kv) wo)) ∗ R) ⊢ WP c p Q) :
    iprop(St kv K q maskV c 8 8 16 ∗ ((c : Thread nD τ).loc cc0_stg4_0 ↦{fullShare} wo)
        ∗ (∃ f : S2x512x768.Idx → Elt F .f32, ((c : Thread nD τ).loc cc0_stg5_0 ↦{fullShare} f)) ∗ R)
      ⊢ WP c (.op (.load cxM (Rect.unit (s := S1024x512) ![0, 0] S1024x512.size inb_S1024x512_S1024x512_0_0).toLoadRect w1) fun a =>
          .op (.load (Memref.whole cc0_stg4_0) (Rect.unit (s := S512x768) ![0, 0] S512x768.size inb_S512x768_S512x768_0_0).toLoadRect w2) fun b =>
          .op (.load (Memref.whole cc0_stg5_0) (Rect.unit (s := S2x512x768) ![0, 0, 0] S2x512x768.size inb_S2x512x768_S2x512x768_0_0_0).toLoadRect w3) fun _ =>
          .op (.store (Memref.whole cc0_stg5_0) (Rect.unit (s := S2x512x768) ![0, 0, 0] S2x512x768.size inb_S2x512x768_S2x512x768_0_0_0) (k0_pay2 a b) Finset.univ w4 w5) fun _ => p) Q := by
  unfold WP at hk ⊢
  unfold St
  rw [show rem c 8 = [] from rem_end c, heads_end]
  iintro ⟨⟨-, -, HO, HH, HC⟩, Hw, ⟨%f, Hf⟩, HR⟩
  ihave HC := (ctxTo_end q maskV c) $$ HC
  iapply (wp_load 𝒱₀ (c : Thread nD τ) none Set.univ (m := cxM) (Finset.subset_univ _)) $$ [HC]
  · iexact HC
  iintro HC
  iapply (wp_load 𝒱₀ (c : Thread nD τ) none Set.univ (m := Memref.whole cc0_stg4_0) (Finset.subset_univ _)) $$ [Hw]
  · iexact Hw
  iintro Hw
  iapply (wp_load 𝒱₀ (c : Thread nD τ) none Set.univ (m := Memref.whole cc0_stg5_0) (Finset.subset_univ _)) $$ [Hf]
  · iexact Hf
  iintro Hf
  rw [read_ctx, read_wo]
  iapply (wp_store 𝒱₀ (c : Thread nD τ) none Set.univ (m := Memref.whole cc0_stg5_0)
    (r := Rect.unit (s := S2x512x768) ![0, 0, 0] S2x512x768.size inb_S2x512x768_S2x512x768_0_0_0) (Mk := Finset.univ) (Finset.subset_univ _)) $$ [Hf]
  · iexact Hf
  rw [write_out]
  iintro Hf
  iapply hk
  isplitr [HR]
  · isplitl [HO]; · iexact HO
    isplitl [HH]; · iexact HH
    isplitl [HC]; · iexists _; iexact HC
    isplitl [Hw]; · iexact Hw
    iexact Hf
  iexact HR

/-- What stays aside while the heads are worked off. -/
def aside (kv : S8x2x2x512x64.Idx → Elt F .bf16) (K : Dev nD × CK → ℕ) (c : Dev nD) (x : S2x512x768.Idx → Elt F .bf16) (wq : S768x512.Idx → Elt F .bf16) (kb vb : S2x512x8x64.Idx → Elt F .bf16)
    (wo : S512x768.Idx → Elt F .bf16) (Q : PUnit → sProp 𝕄) : sProp 𝕄 :=
  iprop((((c : Thread nD τ).loc cc0_stg0_0 ↦{fullShare} x) ∗ ((c : Thread nD τ).loc cc0_stg1_0 ↦{fullShare} wq)
    ∗ ((c : Thread nD τ).loc cc0_stg2_0 ↦{fullShare} kb) ∗ ((c : Thread nD τ).loc cc0_stg3_0 ↦{fullShare} vb))
    ∗ records kv K ∗ levAts L lv ∗ bigSep Finset.univ (fun h => sendPos (F := F) c h fun _ => 0) ∗ atPos ER (barCell c) 1 ∅ 0
    ∗ ((bodyPost kv c ∗ ins c x wq kb vb wo ∗ ((c : Thread nD τ).loc cc0_stg5_0 ↦{fullShare} outV kv x wq wo)) -∗ Q ⟨⟩))

theorem ctxTo_start (q : FVec F S1024x512 .bf16) (m : IVec S512x512 1) (c : Dev nD) :
    iprop(∃ f : S1024x512.Idx → Elt F .bf16, ((c : Thread nD τ).loc cc0_scratch1 ↦{fullShare} f)) ⊢ ctxTo kv q m c 0 := by
  unfold ctxTo
  iintro ⟨%f, H⟩
  iexists f
  isplitr
  · ipureintro; exact fun i hi => absurd hi (Nat.not_lt_zero _)
  iexact H

/-- What stays aside while the sends are awaited. -/
def aside2 (kv : S8x2x2x512x64.Idx → Elt F .bf16) (c : Dev nD) (x : S2x512x768.Idx → Elt F .bf16) (wq : S768x512.Idx → Elt F .bf16) (kb vb : S2x512x8x64.Idx → Elt F .bf16)
    (wo : S512x768.Idx → Elt F .bf16) (Q : PUnit → sProp 𝕄) : sProp 𝕄 :=
  iprop(ins c x wq kb vb wo ∗ ((c : Thread nD τ).loc cc0_stg5_0 ↦{fullShare} outV kv x wq wo)
    ∗ (∃ f : S1024x512.Idx → Elt F .bf16, ((c : Thread nD τ).loc cc0_scratch1 ↦{fullShare} f)) ∗ atPos ER (barCell c) 1 ∅ 0
    ∗ ((bodyPost kv c ∗ ins c x wq kb vb wo ∗ ((c : Thread nD τ).loc cc0_stg5_0 ↦{fullShare} outV kv x wq wo)) -∗ Q ⟨⟩))

theorem outQ (c : Dev nD) (x : S2x512x768.Idx → Elt F .bf16) (wq : S768x512.Idx → Elt F .bf16) (kb vb : S2x512x8x64.Idx → Elt F .bf16)
    (wo : S512x768.Idx → Elt F .bf16) {Q : PUnit → sProp 𝕄} :
    iprop((Ow c [] ∗ bigSep Finset.univ (ready kv c) ∗ (∃ f : S1024x512.Idx → Elt F .bf16, ((c : Thread nD τ).loc cc0_scratch1 ↦{fullShare} f))
      ∗ ((c : Thread nD τ).loc cc0_stg4_0 ↦{fullShare} wo) ∗ ((c : Thread nD τ).loc cc0_stg5_0 ↦{fullShare} k0_pay2 (ctx (k0_pay35 x wq) maskV kv) wo))
        ∗ aside kv K c x wq kb vb wo Q)
      ⊢ iprop((records kv K ∗ levAts L lv ∗ Ow c [] ∗ bigSep Finset.univ (undrained kv c)) ∗ aside2 kv c x wq kb vb wo Q) := by
  have e : bigSep Finset.univ (undrained kv c) = iprop(bigSep Finset.univ (ready kv c) ∗ bigSep Finset.univ (fun h => sendPos (F := F) c h fun _ => 0)) := bigSep_sep' ..
  rw [e]
  unfold aside aside2
  iintro ⟨⟨HO, HH, Hc, Hw, Ho⟩, ⟨Hx, Hq, HK, HV⟩, #HR, #Hlev, Hp, Hat, Hk⟩
  isplitl [HO HH Hp]
  · isplitr; · iexact HR
    isplitr; · iexact Hlev
    isplitl [HO]; · iexact HO
    isplitl [HH]; · iexact HH
    iexact Hp
  isplitl [Hx Hq HK HV Hw]
  · unfold ins
    isplitl [Hx]; · iexact Hx
    isplitl [Hq]; · iexact Hq
    isplitl [HK]; · iexact HK
    isplitl [HV]; · iexact HV
    iexact Hw
  isplitl [Ho]; · iexact Ho
  isplitl [Hc]; · iexact Hc
  isplitl [Hat]; · iexact Hat
  iexact Hk

theorem endQ (c : Dev nD) (x : S2x512x768.Idx → Elt F .bf16) (wq : S768x512.Idx → Elt F .bf16) (kb vb : S2x512x8x64.Idx → Elt F .bf16)
    (wo : S512x768.Idx → Elt F .bf16) {Q : PUnit → sProp 𝕄} :
    iprop((Ow c [] ∗ bigSep Finset.univ (drained kv c)) ∗ aside2 kv c x wq kb vb wo Q) ⊢ Q ⟨⟩ := by
  unfold aside2
  iintro ⟨⟨HO, HH⟩, Hi, Ho, Hc, Hat, Hk⟩
  iapply Hk
  isplitl [HO HH Hc Hat]
  · unfold bodyPost
    isplitl [HO]; · iexact HO
    isplitl [Hat]; · iexact Hat
    isplitl [HH]; · iexact HH
    iexact Hc
  isplitl [Hi]; · iexact Hi
  iexact Ho

/-- Awaiting the sends: the root's three for each head, an inner device's one. -/
theorem to_waits {c : Dev nD} {b1 b2 : BitVec 1} (h1 : b1 = 1#1 ↔ c = 0) (h2 : b2 = 1#1 ↔ inner c) {α : Type} {Q : α → sProp 𝕄} {R : sProp 𝕄}
    {T1 : b1 = 1#1 → Prog (TpuEff nD τ sig (Elt F) Λ₀ .tc) α} {T2 : b2 = 1#1 → Prog (TpuEff nD τ sig (Elt F) Λ₀ .tc) α} {p : Prog (TpuEff nD τ sig (Elt F) Λ₀ .tc) α}
    (hT2 : ∀ h, T2 h = waitL oneSends p) (hT1 : ∀ h, T1 h = waitL allSends (if h : b2 = 1#1 then T2 h else p))
    (hk : iprop((Ow c [] ∗ bigSep Finset.univ (drained kv c)) ∗ R) ⊢ WP c p Q) :
    iprop((records kv K ∗ levAts L lv ∗ Ow c [] ∗ bigSep Finset.univ (undrained kv c)) ∗ R)
      ⊢ WP c (if h : b1 = 1#1 then T1 h else if h : b2 = 1#1 then T2 h else p) Q := by
  iintro ⟨⟨#HR, #Hlev, HO, HH⟩, HF⟩
  iapply (wp_root_waits (kv := kv) (K := K) c b1 h1 hT1)
  isplitr; · iexact HR
  isplitr; · iexact Hlev
  isplitl [HO]; · iexact HO
  isplitl [HH]; · iexact HH
  iintro ⟨HO, HH⟩
  iapply (wp_inner_waits (kv := kv) (K := K) c b2 h2 hT2)
  isplitr; · iexact HR
  isplitr; · iexact Hlev
  isplitl [HO]; · iexact HO
  isplitl [HH]; · iexact HH
  iintro ⟨HO, HH⟩
  iapply hk
  isplitr [HF]
  · isplitl [HO]; · iexact HO
    iexact HH
  iexact HF

set_option maxHeartbeats 1000000 in
/-- The run of the kernel on device `c`, from its entry to its end. -/
theorem wp_body (c : Dev nD) (x : S2x512x768.Idx → Elt F .bf16) (wq : S768x512.Idx → Elt F .bf16) (kb vb : S2x512x8x64.Idx → Elt F .bf16)
    (wo : S512x768.Idx → Elt F .bf16) (hkv : c = 0 → kv = kvOf kb vb) {Q : PUnit → sProp 𝕄} :
    iprop(bodyPre kv K c ∗ ins c x wq kb vb wo ∗ (∃ f : S2x512x768.Idx → Elt F .f32, ((c : Thread nD τ).loc cc0_stg5_0 ↦{fullShare} f))
        ∗ ((bodyPost kv c ∗ ins c x wq kb vb wo ∗ ((c : Thread nD τ).loc cc0_stg5_0 ↦{fullShare} outV kv x wq wo)) -∗ Q ⟨⟩))
      ⊢ WP c (at_ (cc0_body (F := F))) Q := by
  unfold at_
  rw [cc0_body_eq_skeleton]
  unfold cc0_body_skel
  simp (config := { zeta := false }) only [Prog.lift, Prog.bind_op, Prog.bind_ret, Prog.pure_eq_ret]
  refine to_then ?_
  unfold bodyPre ins
  iintro ⟨⟨#HR, #Hlev, Hb, Hs, Ht, Hr, Hp, Hc⟩, ⟨Hx, Hq, HK, HV, Hw⟩, Hf, Hk⟩
  iapply (entry (kv := kv) (K := K) _ _ _ _ _ _ _ _ _ _ _ _ _ _ _ _ _ _ c)
  isplitr; · iexact HR
  isplitr; · iexact Hlev
  isplitl [Hb]; · iexact Hb
  unfold barPost
  iintro ⟨HO, Hat, Hbufs⟩
  iapply (to_then (c := c) (p := at_ (k0_part32 (F := F)) c) (BI.Entails.refl _))
  iapply (wp_part32 (kv := kv) (K := K) c kb vb hkv x wq)
  isplitr; · iexact HR
  isplitl [HO]; · iexact HO
  isplitl [HK]; · iexact HK
  isplitl [HV]; · iexact HV
  isplitl [Hs]; · iexact Hs
  isplitl [Hbufs]; · unfold bufs; iexact Hbufs
  isplitl [Ht]; · iexact Ht
  isplitl [Hr]; · iexact Hr
  isplitl [Hx]; · iexact Hx
  isplitl [Hq]; · iexact Hq
  iintro ⟨HO, HK, HV, HA, Hx, Hq⟩
  iapply (by_entails (A := iprop(St kv K (k0_pay35 x wq) maskV c 0 0 0 ∗ ((c : Thread nD τ).loc cc0_stg4_0 ↦{fullShare} wo)
        ∗ (∃ f : S2x512x768.Idx → Elt F .f32, ((c : Thread nD τ).loc cc0_stg5_0 ↦{fullShare} f)) ∗ aside kv K c x wq kb vb wo Q)) ?mid)
  rotate_left
  · ihave HA := (Entails.of_eq (heads_start c)) $$ HA
    unfold St aside
    isplitl [HO HA Hc]
    · isplitr; · iexact HR
      isplitr; · iexact Hlev
      isplitl [HO]; · iexact HO
      isplitl [HA]; · iexact HA
      iapply (ctxTo_start _ _ c)
      iexact Hc
    isplitl [Hw]; · iexact Hw
    isplitl [Hf]; · iexact Hf
    isplitl [Hx Hq HK HV]
    · isplitl [Hx]; · iexact Hx
      isplitl [Hq]; · iexact Hq
      isplitl [HK]; · iexact HK
      iexact HV
    isplitr; · iexact HR
    isplitr; · iexact Hlev
    isplitl [Hp]; · iexact Hp
    isplitl [Hat]; · iexact Hat
    unfold ins
    iexact Hk
  case mid =>
  dsimp only
  refine to_then ?_
  refine wp_part33 (m := maskV) c ?_
  refine to_then ?_
  refine wp_part34 (m := maskV) c ?_
  refine to_then ?_
  refine wp_part35 (m := maskV) c ?_
  refine to_then ?_
  refine wp_part36 (m := maskV) c ?_
  refine to_then ?_
  refine wp_part37 (m := maskV) c ?_
  refine to_then ?_
  refine wp_part38 (m := maskV) c ?_
  refine to_then ?_
  refine wp_part39 (m := maskV) c ?_
  refine to_then ?_
  refine wp_part40 (m := maskV) c ?_
  refine to_then ?_
  refine wp_part41 (m := maskV) c ?_
  refine to_then ?_
  refine wp_part42 (m := maskV) c ?_
  refine to_then ?_
  refine wp_part43 (m := maskV) c ?_
  refine to_then ?_
  refine wp_part44 (m := maskV) c ?_
  refine to_idle ?_
  refine to_store 7 1 rfl rfl ?_
  refine to_out _ wo ?_
  refine BIBase.Entails.trans (outQ c x wq kb vb wo) ?_
  refine to_waits (root_bit c) (inner_bit c) (fun h => inner_waits _ _) (fun h => root_waits _) ?_
  exact (endQ c x wq kb vb wo).trans (wp_done c _ _)

end Cert.KernelIdeal.Tree
-- ==== Proof.Close.lean ====
module

public import proofs.«01_k».proof.Proof.Fund
public import proofs.«01_k».proof.Proof.Body

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {kv : S8x2x2x512x64.Idx → Elt F .bf16} {K : Dev nD × CK → ℕ}

/-! # A device's positions at the start, and its cells closed at the end -/

/-- The root's receive cells, which nobody pays. -/
def rootPos (c : Dev nD) (h : Fin 8) : sProp 𝕄 := if c = 0 then atPos ER (recvCell c h) 0 ∅ 0 else iprop(emp)

theorem recv_start (c : Dev nD) (h : Fin 8) :
    iprop((if c = 0 then iprop(emp) else cred (tallyAt (recvCell c h) () N)) ∗ atPos ER (recvCell c h) 0 ∅ 0) ⊢ iprop(recvRes (F := F) c h ∗ rootPos c h) := by
  unfold recvRes rootPos
  by_cases h0 : c = 0
  · rw [if_pos h0, if_pos h0, if_pos h0]
  · rw [if_neg h0, if_neg h0, if_neg h0]
    iintro ⟨H1, H2⟩
    isplitl [H1 H2]
    · isplitl [H1] <;> iassumption
    iempintro

theorem positions (c : Dev nD) :
    iprop(bigSep Finset.univ (fun k : CK => atPos ER (kcell (c, k)) 0 ∅ 0) ∗ bigSep Finset.univ (fun h => if c = 0 then iprop(emp) else cred (tallyAt (recvCell c h) () N)))
      ⊢ iprop(atPos ER (barCell c) 0 ∅ 0 ∗ bigSep Finset.univ (fun h => sendPos (F := F) c h fun _ => 0) ∗ bigSep Finset.univ (recvRes (F := F) c)
        ∗ bigSep Finset.univ (rootPos (F := F) c)) := by
  rw [cells_split]
  have e : iprop(bigSep Finset.univ (fun h => if c = 0 then iprop(emp) else cred (tallyAt (recvCell c h) () N)) ∗ bigSep Finset.univ (fun h : Fin 8 => atPos ER (recvCell c h) 0 ∅ 0))
      ⊢ (iprop(bigSep Finset.univ (recvRes (F := F) c) ∗ bigSep Finset.univ (rootPos (F := F) c)) : sProp 𝕄) := by
    rw [← bigSep_sep', ← bigSep_sep']
    exact bigSep_mono fun h _ => recv_start c h
  iintro ⟨⟨H1, H2, H3⟩, Hc⟩
  isplitl [H1]; · iexact H1
  isplitl [H2]; · unfold sendPos; iexact H2
  iapply e
  isplitl [Hc] <;> iassumption

theorem dut_send_none : ∀ (c : Dev nD) (r : Fin 3) (h : Fin 8), ¬ r.val < (kids c).length → dut (c, sK r h) = ∅ := by decide +kernel

theorem close_send (c : Dev nD) (r : Fin 3) (h : Fin 8) :
    iprop(records kv K ∗ atPos ER (sendCell c r h) (sent c r) ∅ 0) ⊢ (iprop(|={Set.univ}=> semVal (sendCell c r h) 0) : sProp 𝕄) :=
  step_close (c, sK r h) (sent c r) (by
    unfold sent
    by_cases hr : r.val < (kids c).length
    · exact .inl (if_pos hr)
    · exact .inr ⟨if_neg hr, dut_send_none c r h hr⟩)

theorem close_recv (c : Dev nD) (h : Fin 8) :
    iprop(records kv K ∗ (if c = 0 then iprop(emp) else atPos ER (recvCell c h) 1 ∅ 0) ∗ rootPos (F := F) c h) ⊢ (iprop(|={Set.univ}=> semVal (recvCell c h) 0) : sProp 𝕄) := by
  unfold rootPos
  by_cases h0 : c = 0
  · subst h0
    rw [if_pos rfl, if_pos rfl]
    iintro ⟨#HR, -, H⟩
    iapply (step_close (kv := kv) (K := K) (0, rK h) 0 (.inr ⟨rfl, dut_recv_root h⟩))
    isplitr; · iexact HR
    iexact H
  · rw [if_neg h0, if_neg h0]
    iintro ⟨#HR, H, -⟩
    iapply (step_close (kv := kv) (K := K) (c, rK h) 1 (.inl rfl))
    isplitr; · iexact HR
    iexact H

/-- A head's cells closed. -/
theorem close_head (c : Dev nD) (h : Fin 8) :
    iprop(records kv K ∗ drained kv c h ∗ rootPos (F := F) c h)
      ⊢ iprop(|={Set.univ}=> (scPts c (chS h) fullShare kv ∗ (semVal (sendCell c 0 h) 0 ∗ semVal (sendCell c 1 h) 0 ∗ semVal (sendCell c 2 h) 0) ∗ semVal (recvCell c h) 0)) := by
  unfold drained sendPos
  iintro ⟨#HR, ⟨Hs, Hr, H0, H1, H2⟩, Hp⟩
  imod (close_send (kv := kv) (K := K) c 0 h) $$ [H0] with H0
  · isplitr; · iexact HR
    iexact H0
  imod (close_send (kv := kv) (K := K) c 1 h) $$ [H1] with H1
  · isplitr; · iexact HR
    iexact H1
  imod (close_send (kv := kv) (K := K) c 2 h) $$ [H2] with H2
  · isplitr; · iexact HR
    iexact H2
  imod (close_recv (kv := kv) (K := K) c h) $$ [Hr Hp] with Hr
  · isplitr; · iexact HR
    isplitl [Hr] <;> iassumption
  imodintro
  isplitl [Hs]; · iexact Hs
  isplitl [H0 H1 H2]
  · isplitl [H0]; · iexact H0
    isplitl [H1] <;> iassumption
  iexact Hr

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

/-- All the cells of a device closed, and its scratch buffer whole. -/
theorem close_all (c : Dev nD) :
    iprop(records kv K ∗ atPos ER (barCell c) 1 ∅ 0 ∗ bigSep Finset.univ (drained kv c) ∗ bigSep Finset.univ (rootPos (F := F) c))
      ⊢ iprop(|={Set.univ}=> (scPts c Finset.univ fullShare kv ∗ bigSep Finset.univ (fun k : CK => semVal (kcell (c, k)) 0))) := by
  have e : iprop(records kv K ∗ bigSep Finset.univ (drained kv c) ∗ bigSep Finset.univ (rootPos (F := F) c))
      ⊢ iprop(|={Set.univ}=> (bigSep Finset.univ (fun h => scPts c (chS h) fullShare kv)
        ∗ bigSep Finset.univ (fun h : Fin 8 => iprop(semVal (sendCell c 0 h) 0 ∗ semVal (sendCell c 1 h) 0 ∗ semVal (sendCell c 2 h) 0)) ∗ bigSep Finset.univ (fun h => semVal (recvCell c h) 0))) := by
    rw [← bigSep_sep', ← bigSep_sep', ← bigSep_sep']
    exact BIBase.Entails.trans (with_records fun h _ => close_head c h) (bigSep_fupd _ _)
  rw [cells_split, chunks c fullShare kv]
  iintro ⟨#HR, Hb, Hd, Hp⟩
  imod (step_close (kv := kv) (K := K) (c, 0) 1 (.inl rfl)) $$ [Hb] with Hb
  · isplitr; · iexact HR
    iexact Hb
  imod e $$ [Hd Hp] with ⟨Hs, H1, H2⟩
  · isplitr; · iexact HR
    isplitl [Hd] <;> iassumption
  imodintro
  isplitl [Hs]; · iexact Hs
  isplitl [Hb]; · iexact Hb
  isplitl [H1] <;> iassumption

end Cert.KernelIdeal.Tree
-- ==== Proof.Launch.lean ====
module

public import proofs.«01_k».proof.Proof.Close
public import proofs.«01_k».proof.Proof.Gen.KernelIdeal.Frame

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! # The launch: what the devices are dealt, and the run of the whole mesh -/

/-- A device's staged inputs: `x`, `Wq`, its block of K, its block of V, `Wo`. -/
def xAt (c : Dev nD) : S2x512x768.Idx → Elt F .bf16 := iblk m c 0 t0_0
def wqAt (c : Dev nD) : S768x512.Idx → Elt F .bf16 := iblk m c 1 t0_0
def kAt (c : Dev nD) : S2x512x8x64.Idx → Elt F .bf16 := iblk m c 2 t0_0
def vAt (c : Dev nD) : S2x512x8x64.Idx → Elt F .bf16 := iblk m c 3 t0_0
def woAt (c : Dev nD) : S512x768.Idx → Elt F .bf16 := iblk m c 4 t0_0

/-- The root's keys and values, which every device receives. -/
def kvM : S8x2x2x512x64.Idx → Elt F .bf16 := kvOf (kAt m 0) (vAt m 0)

/-- A device's result. -/
def outAt (c : Dev nD) : S2x512x768.Idx → Elt F .f32 := outV (kvM m) (xAt m c) (wqAt m c) (woAt m c)

/-- The scoped semaphores of the protocol. -/
def osem (k : Fin 32) : SemLoc sig := csem k.succ

theorem ownSemFacts : Pipeline.OwnSemFacts cfg0.spec osem := by decide +kernel

/-- What a device holds once the cells are allocated. -/
def G' (c : Dev nD) : sProp 𝕄 :=
  iprop(∃ K, records (kvM m) K ∗ bigSep Finset.univ (fun k : CK => atPos ER (kcell (c, k)) 0 ∅ 0) ∗ payToks (F := F) c)

/-- What the launch element deals a device. -/
def G (c : Dev nD) : sProp 𝕄 :=
  iprop(bigSep Finset.univ (fun k : CK => roundState ER (Rd (kvM m)) (kcell (c, k)) 0)
    ∗ bigSep Finset.univ (fun k : CK => iprop(atPos ER (kcell (c, k)) 0 ∅ 0 ∗ reached ER (kcell (c, k)) 0)) ∗ payToks (F := F) c)

/-- What the body of a device starts from, its buffers apart. -/
def start (c : Dev nD) : sProp 𝕄 :=
  iprop(G' m c ∗ (cred (tallyAt (barCell c) () (nbrs c).length) ∗ bigSep Finset.univ (fun h => if c = 0 then iprop(emp) else cred (tallyAt (recvCell c h) () N)))
    ∗ levAts L lv)

def scr1 (c : Dev nD) : sProp 𝕄 := iprop(∃ f : S1024x512.Idx → Elt F .bf16, ((c : Thread nD τ).loc cc0_scratch1 ↦{fullShare} f))

def Φ₀ (c : Dev nD) : sProp 𝕄 := iprop(start m c ∗ (∃ f, scPts (F := F) c Finset.univ fullShare f) ∗ scr1 (F := F) c)

/-- After the body: the buffers, and every counter of the protocol at zero. -/
def Φ₁ (c : Dev nD) : sProp 𝕄 :=
  iprop((∃ f, scPts (F := F) c Finset.univ fullShare f) ∗ scr1 (F := F) c ∗ bigSep Finset.univ (fun k : CK => semVal (kcell (c, k)) 0))

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wqAt m c
    | ⟨2, _⟩ => kAt m c
    | ⟨3, _⟩ => vAt m c
    | ⟨4, _⟩ => woAt m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- A buffer whole, at contents known. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X : b.ty.Contents (Elt F)) : stg c b X ⊢ ((c : Thread nD τ).loc b) ↦{fullShare} X := by
  unfold stg; iintro ⟨%f, %hf, H⟩; subst hf; iexact H
theorem stg_intro (c : Dev nD) (b : Ref sig .tc) (X : b.ty.Contents (Elt F)) : (((c : Thread nD τ).loc b) ↦{fullShare} X) ⊢ stg c b X := by
  unfold stg; iintro H; iexists X; isplitr
  · ipureintro; rfl
  iexact H

theorem before_0 (c : Dev nD) (d) : (dats m 0 c).before (0 : Fin 6) t0_0 d = xAt m c := by
  unfold Dat.before; rw [if_pos (fetch0_0 _)]; rfl
theorem before_1 (c : Dev nD) (d) : (dats m 0 c).before (1 : Fin 6) t0_0 d = wqAt m c := by
  unfold Dat.before; rw [if_pos (fetch0_1 _)]; rfl
theorem before_2 (c : Dev nD) (d) : (dats m 0 c).before (2 : Fin 6) t0_0 d = kAt m c := by
  unfold Dat.before; rw [if_pos (fetch0_2 _)]; rfl
theorem before_3 (c : Dev nD) (d) : (dats m 0 c).before (3 : Fin 6) t0_0 d = vAt m c := by
  unfold Dat.before; rw [if_pos (fetch0_3 _)]; rfl
theorem before_4 (c : Dev nD) (d) : (dats m 0 c).before (4 : Fin 6) t0_0 d = woAt m c := by
  unfold Dat.before; rw [if_pos (fetch0_4 _)]; rfl

def obPre (c : Dev nD) : sProp 𝕄 :=
  iprop(Φ₀ m c ∗ (dats m 0 c).owesAt () (Fin.castSucc t0_0)
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def obPost (c : Dev nD) : sProp 𝕄 :=
  iprop(Φ₁ (F := F) c ∗ (dats m 0 c).owesAt () (Fin.succ t0_0)
    ∗ stg c cc0_stg0_0 (xAt m c) ∗ stg c cc0_stg1_0 (wqAt m c) ∗ stg c cc0_stg2_0 (kAt m c) ∗ stg c cc0_stg3_0 (vAt m c)
    ∗ stg c cc0_stg4_0 (woAt m c) ∗ stg c cc0_stg5_0 (outAt m c))

theorem owes_in (c : Dev nD) : (dats m 0 c).owesAt () (Fin.castSucc t0_0) ⊢ Ow (F := F) c (pays c) := by
  unfold Dat.owesAt Pipeline.owesWithin Ow
  iintro ⟨%W, %hW, H⟩
  iexists W
  iexact H

theorem owes_out (c : Dev nD) : Ow (F := F) c [] ⊢ (dats m 0 c).owesAt () (Fin.succ t0_0) := by
  unfold Dat.owesAt Pipeline.owesWithin Ow
  iintro ⟨%W, H⟩
  iexists W
  isplitr
  · ipureintro; exact fun _ _ => Or.inl trivial
  iexact H

/-- A device's positions, tokens, credits and scratch buffers are what its body asks for. -/
theorem start_body (K : Dev nD × CK → ℕ) (c : Dev nD) :
    iprop(records (kvM m) K ∗ levAts L lv ∗ bigSep Finset.univ (fun k : CK => atPos ER (kcell (c, k)) 0 ∅ 0) ∗ payToks (F := F) c
        ∗ cred (tallyAt (barCell c) () (nbrs c).length) ∗ bigSep Finset.univ (fun h => if c = 0 then iprop(emp) else cred (tallyAt (recvCell c h) () N))
        ∗ (∃ f, scPts (F := F) c Finset.univ fullShare f) ∗ scr1 (F := F) c ∗ Ow (F := F) c (pays c))
      ⊢ iprop(bodyPre (kvM m) K c ∗ bigSep Finset.univ (rootPos (F := F) c)) := by
  unfold bodyPre barPre scr1
  iintro ⟨#HR, #Hlev, Hat, Htok, Hcb, Hcr, Hs0, Hs1, HO⟩
  ihave Hp := (positions (F := F) c) $$ [Hat Hcr]
  · isplitl [Hat] <;> iassumption
  icases Hp with ⟨Hb, Hsp, Hrr, Hroot⟩
  ihave Ht := (payToks_split (F := F) c) $$ Htok
  icases Ht with ⟨Htb, Htt⟩
  ihave Hn := (pay_nbrs (kv := kvM m) c) $$ Hs0
  icases Hn with ⟨Hpb, Hs0⟩
  ihave Hl := (Entails.of_eq (bar_toks (kv := kvM m) c)) $$ [Htb Hpb]
  · isplitl [Htb] <;> iassumption
  isplitr [Hroot]
  · isplitr; · iexact HR
    isplitr; · iexact Hlev
    isplitl [HO Hl Hcb Hb]
    · isplitl [HO]; · iexact HO
      isplitl [Hl]; · iexact Hl
      isplitl [Hcb] <;> iassumption
    isplitl [Hs0]; · iexact Hs0
    isplitl [Htt]; · iexact Htt
    isplitl [Hrr]; · iexact Hrr
    isplitl [Hsp] <;> iassumption
  iexact Hroot

/-- The body of a device, from what the launch deals it to every counter closed. -/
theorem body_run (c : Dev nD) : obPre m c ⊢ WP c (at_ (cc0_body (F := F))) (fun _ => obPost m c) := by
  refine BIBase.Entails.trans ?_ (wp_fupd _ _ _ _ _)
  unfold obPre Φ₀ start G'
  iintro ⟨⟨⟨⟨%K, #HR, Hat, Htok⟩, ⟨Hcb, Hcr⟩, #Hlev⟩, Hs0, Hs1⟩, HO, ⟨%d0, H0⟩, ⟨%d1, H1⟩, ⟨%d2, H2⟩, ⟨%d3, H3⟩, ⟨%d4, H4⟩, ⟨%d5, H5⟩⟩
  ihave HO := (owes_in m c) $$ HO
  rw [before_0, before_1, before_2, before_3, before_4]
  ihave H0 := (stg_elim c cc0_stg0_0 _) $$ H0
  ihave H1 := (stg_elim c cc0_stg1_0 _) $$ H1
  ihave H2 := (stg_elim c cc0_stg2_0 _) $$ H2
  ihave H3 := (stg_elim c cc0_stg3_0 _) $$ H3
  ihave H4 := (stg_elim c cc0_stg4_0 _) $$ H4
  ihave H5 := (stg_elim c cc0_stg5_0 _) $$ H5
  ihave Hb := (start_body m K c) $$ [Hat Htok Hcb Hcr Hs0 Hs1 HO]
  · isplitr; · iexact HR
    isplitr; · iexact Hlev
    isplitl [Hat]; · iexact Hat
    isplitl [Htok]; · iexact Htok
    isplitl [Hcb]; · iexact Hcb
    isplitl [Hcr]; · iexact Hcr
    isplitl [Hs0]; · iexact Hs0
    isplitl [Hs1] <;> iassumption
  icases Hb with ⟨Hb, Hroot⟩
  iapply (wp_body (kv := kvM m) (K := K) c (xAt m c) (wqAt m c) (kAt m c) (vAt m c) (woAt m c) (fun h => by subst h; rfl))
  isplitl [Hb]; · iexact Hb
  isplitl [H0 H1 H2 H3 H4]
  · unfold ins
    isplitl [H0]; · iexact H0
    isplitl [H1]; · iexact H1
    isplitl [H2]; · iexact H2
    isplitl [H3] <;> iassumption
  isplitl [H5]; · iexists _; iexact H5
  unfold bodyPost ins
  iintro ⟨⟨HO, Hbar, Hd, Hs1⟩, ⟨H0, H1, H2, H3, H4⟩, H5⟩
  imod (close_all (kv := kvM m) (K := K) c) $$ [Hbar Hd Hroot] with ⟨Hs0, Hz⟩
  · isplitr; · iexact HR
    isplitl [Hbar]; · iexact Hbar
    isplitl [Hd] <;> iassumption
  imodintro
  unfold obPost Φ₁
  isplitl [Hs0 Hs1 Hz]
  · isplitl [Hs0]; · iexists _; iexact Hs0
    isplitl [Hs1]; · unfold scr1; iexact Hs1
    iexact Hz
  isplitl [HO]; · iapply (owes_out m c); iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  iapply (stg_intro c cc0_stg5_0); iexact H5

theorem body_obligation (c : Dev nD) : BodyObligation (dats m 0 c) (defs₀ (F := F)) 𝒱₀ () Set.univ := fun t => by
  rw [show t = t0_0 from fin_N0 t]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from fun Φ => bigSep_W0 Φ,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from fun Φ => bigSep_W0 Φ]
  simp only [owns_whole_eq]
  exact body_run m c

end Cert.KernelIdeal.Tree
-- ==== Proof.Run.lean ====
module

public import proofs.«01_k».proof.Proof.Launch
public import Idealize.ShloMosaic.Lib.Pipeline.CollectiveSegs

@[expose] public section

set_option maxRecDepth 16384

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! # The run of the whole mesh -/

def treeCells : Finset (GSem nD τ sig) := Finset.univ.map ⟨kcell, kcell_inj⟩

def u₀ : UU :=
  (initOf (Pipeline.cells cfgs cellOf_inj) (Pipeline.launchToks cfgs cellOf_inj), initOf treeCells treeToks)

theorem fund_tree : BI.own (ER (initOf treeCells treeToks)) ⊢ (|==> bigSep Finset.univ (G m) : sProp 𝕄) := by
  have hX (Φ : GSem nD τ sig → sProp 𝕄) : bigSep treeCells Φ = bigSep Finset.univ fun c : Dev nD => bigSep Finset.univ fun k : CK => Φ (kcell (c, k)) := by
    unfold treeCells; rw [bigSep_map, bigSep_univ_prod]; rfl
  iintro HX
  imod (Rounds.fund ER (Rd (kvM m)) treeCells treeToks) $$ HX with ⟨Hst, Hr, Hat, Htok⟩
  imodintro
  ihave Hst' := (Entails.of_eq (hX fun g => roundState ER (Rd (kvM m)) g 0)) $$ Hst
  ihave Hat' := (Entails.of_eq (hX fun g => atPos ER g 0 ∅ 0)) $$ Hat
  ihave Hr' := (Entails.of_eq (hX fun g => reached ER g 0)) $$ Hr
  ihave Htok' := (Entails.of_eq (treeToks_eq (F := F))) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The launch's counter and the scoped ones, cell by cell. -/
def numOf : Unit ⊕ Fin 32 → CK
  | .inl _ => 0
  | .inr k => k.succ

theorem numOf_bij : Function.Bijective numOf := by decide +kernel

theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [unscopedSems0_eq, bigSep_univ_equiv (Equiv.ofBijective numOf numOf_bij) (fun k : CK => (semVal (kcell (c, k)) 0 : sProp 𝕄)), bigSep_univ_sum]
  have e0 : bigSep Finset.univ (fun u : Unit => (semVal (kcell (c, (Equiv.ofBijective numOf numOf_bij) (Sum.inl u))) 0 : sProp 𝕄)) = semVal (barCell c) 0 :=
    (bigSep_univ_eq_bigSepL [()] (by decide) (by decide) _).trans rfl
  rw [e0]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (kvM m)) κ (kcell (c, k))))
          ∗ (bigSep Finset.univ fun k => iprop(atPos ER (kcell (c, k)) 0 ∅ 0 ∗ reached ER (kcell (c, k)) 0)) ∗ payToks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (kcell (c, k)) 0) ∗ bigSep Finset.univ fun k : CK => roundState ER (Rd (kvM m)) (kcell (c, k)) 0)
      ⊢ (|={Set.univ}=> bigSep Finset.univ fun k => iprop(∃ κ : ℕ, cellInv ER (Rd (kvM m)) κ (kcell (c, k))) : sProp 𝕄) from by
        rw [← bigSep_sep']
        exact (bigSep_mono fun k _ => (Rounds.body_intro ER (Rd (kvM m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem share_out (K : Dev nD × CK → ℕ) (c : Dev nD) :
    iprop(records (kvM m) K ∗ bigSep Finset.univ (fun k : CK => atPos ER (kcell (c, k)) 0 ∅ 0) ∗ payToks (F := F) c) ⊢ G' m c := by
  unfold G'
  iintro ⟨#HR, Hat, Htok⟩
  iexists K
  isplitr; · iexact HR
  isplitl [Hat] <;> iassumption

theorem regroup :
    (bigSep Finset.univ fun c : Dev nD => iprop((bigSep Finset.univ fun k => iprop(∃ κ : ℕ, cellInv ER (Rd (kvM m)) κ (kcell (c, k))))
          ∗ (bigSep Finset.univ fun k => iprop(atPos ER (kcell (c, k)) 0 ∅ 0 ∗ reached ER (kcell (c, k)) 0)) ∗ payToks c) : sProp 𝕄)
      ⊢ bigSep Finset.univ (G' m) := by
  rw [bigSep_sep', bigSep_sep', ← bigSep_univ_prod (fun ck : Dev nD × CK => iprop(∃ κ : ℕ, cellInv ER (Rd (kvM m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (kvM m)) κ (kcell ck) : sProp 𝕄))) $$ HI
  icases HK with ⟨%K, #HI⟩
  iapply (with_records (R := records (kvM m) K) fun c _ => share_out m K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr1
  iintro ⟨Hs, -, ⟨Hr, H1⟩⟩
  isplitl [Hs]; · iexact Hs
  isplitl [Hr]; · iexact Hr
  iexact H1

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq]
  unfold Φ₁ scr1
  rw [← sems0_eq]
  iintro ⟨Hr, H1, Hu, Ho⟩
  isplitl [Hu]; · iexact Hu
  isplitl [Ho]; · iexact Ho
  isplitl [Hr]; · iexact Hr
  iexact H1

theorem lv_stage : ∀ (c : Dev nD) (w : Fin cfg0.W) (s : Fin (cfg0.win w).nbuf), lv ((c : Thread nD τ), SemLoc.dma ((cfg0.win w).sem s)) () = 0 := by
  decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (lv_stage c w s)
    · show _ ⊢ MayWait _ _ () (0 : CellTallies nD τ sig Unit)
      rw [MayWait_zero]; iintro -; iempintro

theorem share_eq (c : Dev nD) (w : Fin cfg0.W) : (dats m 0 c).share w = fullShare := by unfold Dat.share; split <;> rfl

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with zero counters, every execution of the eight devices terminates, with each device's arrays at
    the computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_tree m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem final_out (c : Dev nD) : (win0_5.blk (0 : Fin 1)).view.read (Elt F) (finalA m c (5 : Fin 6)) = outAt m c := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

end Cert.KernelIdeal.Tree
-- ==== Proof.Frames.lean ====
module

public import proofs.«01_k».proof.Defs
public import proofs.«01_k».proof.Proof.Run
public import proofs.«01_k».proof.Proof.BitsRun
public import proofs.«01_k».proof.Proof.Gen.ReferenceIdeal.Run
public import proofs.«01_k».proof.Proof.Gen.Kernel
public import proofs.«01_k».proof.Proof.Gen.KernelIdeal
public import proofs.«01_k».proof.Proof.Gen.ReferenceIdeal

/-! The programs run to the end, leave their arguments as they were and every counter at zero; and the kernel
read over the extended reals is the kernel with its mask constant read as minus infinity. -/

@[expose] public section

noncomputable section

namespace Cert.Proof

open Idealize.ShloMosaic Idealize.SL.Sem

/-- The kernel as printed keeps its arguments and ends quiescent. -/
theorem frame_kernel : Cert.quiescent_Kernel := by
  intro m ρ _
  exact (θ_run Cert.Kernel.defs _ _).mono (fun _ h =>
    ⟨fun c => ⟨(h.1 c (0 : Fin 6)).trans ((Cert.Kernel.Tree.dats m 0 c).arrAt_in (0 : Fin 6) rfl _),
      (h.1 c (1 : Fin 6)).trans ((Cert.Kernel.Tree.dats m 0 c).arrAt_in (1 : Fin 6) rfl _),
      (h.1 c (2 : Fin 6)).trans ((Cert.Kernel.Tree.dats m 0 c).arrAt_in (2 : Fin 6) rfl _),
      (h.1 c (3 : Fin 6)).trans ((Cert.Kernel.Tree.dats m 0 c).arrAt_in (3 : Fin 6) rfl _),
      (h.1 c (4 : Fin 6)).trans ((Cert.Kernel.Tree.dats m 0 c).arrAt_in (4 : Fin 6) rfl _)⟩, h.2⟩)
    (Cert.Kernel.Tree.run_main (F := Bits) m ρ)

/-- What the idealized kernel's run leaves on the arguments and the counters, from any memory. -/
theorem ideal_args (m : (ℓ : Loc Cert.KernelIdeal.nD Cert.KernelIdeal.τ Cert.KernelIdeal.sig) → Buf (Elt Ideal) ℓ)
    (r : _) (h : Cert.KernelIdeal.Tree.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c (0 : Fin 6)).trans ((Cert.KernelIdeal.Tree.dats m 0 c).arrAt_in (0 : Fin 6) rfl _),
    (h c (1 : Fin 6)).trans ((Cert.KernelIdeal.Tree.dats m 0 c).arrAt_in (1 : Fin 6) rfl _),
    (h c (2 : Fin 6)).trans ((Cert.KernelIdeal.Tree.dats m 0 c).arrAt_in (2 : Fin 6) rfl _),
    (h c (3 : Fin 6)).trans ((Cert.KernelIdeal.Tree.dats m 0 c).arrAt_in (3 : Fin 6) rfl _),
    (h c (4 : Fin 6)).trans ((Cert.KernelIdeal.Tree.dats m 0 c).arrAt_in (4 : Fin 6) rfl _)⟩

/-- The idealized kernel keeps its arguments and ends quiescent. -/
theorem frame_ideal : Cert.quiescent_KernelIdeal := by
  intro m ρ _
  exact (θ_run Cert.KernelIdeal.defs _ _).mono (fun r h => ⟨ideal_args m r h.1, h.2⟩)
    (Cert.KernelIdeal.Tree.run_main (F := Ideal) m ρ)

/-- The reference keeps its arguments and ends quiescent. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask constant is the one the name stands for. -/
theorem mask_named : Cert.preserves_Kernel_KernelIdeal :=
  IdealRules.named_const.statement Cert.KernelIdeal.κ "mask" .f32 0xCE6E6B28#32 ⊥ rfl

end Cert.Proof
-- ==== Proof.Ref.lean ====
module

public import proofs.«01_k».proof.Proof.Gen.ReferenceIdeal.Run
public import Idealize.ShloMosaic.Lib.Pointwise

/-! The reference's result, cut into the steps of the attention that it computes. -/

@[expose] public section

set_option maxRecDepth 16384

noncomputable section

namespace Cert.ReferenceIdeal.Tree

open Cert.ReferenceIdeal Cert.ReferenceIdeal.Gen Cert.ReferenceIdeal.Value Idealize.ShloMosaic Idealize.ShloMosaic.TcCoe

variable {F : FTy → Type} [FloatOps F]

/-- The block of 64 that a query row lies in. -/
def rowBlk : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

/-- The block of 64 that a key column lies in. -/
def colBlk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- A key is seen from a row whose block is not before the key's. -/
def seen : IVec S512x4096 1 :=
  cmpi .sle (broadcastInDim S512x4096 ![0, 1] bcast_S1x4096_S512x4096_0_1 (broadcastInDim S1x4096 ![1] bcast_S4096_S1x4096_1 colBlk))
    (broadcastInDim S512x4096 ![0, 1] bcast_S512x1_S512x4096_0_1 (broadcastInDim S512x1 ![0] bcast_S512_S512x1_0 rowBlk))

/-- The rows that see some key. -/
def keep : IVec S512 1 := Host.reduce IntOp.ori seen (constantI S_ 1 0#1) reducesTo_S512x4096_S512_d1 h_S_

/-- The queries, by head. -/
def queries (x : FVec F S2x512x768 .bf16) (wq : FVec F S768x512 .bf16) : FVec F S2x512x8x64 .f32 :=
  shapeCast _ (Host.dotGeneral dot_S2x512x768_S768x512_S2x512x512_2_0_01_1_n_n none (extf .f32 x bitsLt_bf16_f32) (extf .f32 wq bitsLt_bf16_f32)) shapeCasts_S2x512x512_S2x512x8x64

/-- The scaled scores, minus infinity where a key is not seen. -/
def scores (q : FVec F S2x512x8x64 .f32) (k : FVec F S2x4096x8x64 .bf16) : FVec F S2x8x512x4096 .f32 :=
  select (broadcastInDim S2x8x512x4096 ![0, 1, 2, 3] bcast_S1x1x512x4096_S2x8x512x4096_0_1_2_3 (broadcastInDim S1x1x512x4096 ![2, 3] bcast_S512x4096_S1x1x512x4096_2_3 seen))
    (mulf (Host.dotGeneral dot_S2x512x8x64_S2x4096x8x64_S2x8x512x4096_3_3_1_1_02_02 none q (extf .f32 k bitsLt_bf16_f32)) (broadcastInDim S2x8x512x4096 ![] bcast_S_S2x8x512x4096 (constant S_ .f32 0x3E000000#32)))
    (broadcastInDim S2x8x512x4096 ![] bcast_S_S2x8x512x4096 (id (constant S_ .f32 0xFF800000#32)))

/-- The greatest score of each row. -/
def top (s : FVec F S2x8x512x4096 .f32) : FVec F S2x8x512 .f32 :=
  Host.reduce FloatOps.maximumf s (constant S_ .f32 0xFF800000#32) reducesTo_S2x8x512x4096_S2x8x512_d3 h_S_

/-- The weights before normalisation. -/
def expo (s : FVec F S2x8x512x4096 .f32) : FVec F S2x8x512x4096 .f32 :=
  Host.exp (subf s (broadcastInDim S2x8x512x4096 ![0, 1, 2, 3] bcast_S2x8x512x1_S2x8x512x4096_0_1_2_3 (broadcastInDim S2x8x512x1 ![0, 1, 2] bcast_S2x8x512_S2x8x512x1_0_1_2 (top s))))

/-- The sums of the weights, one where a row sees nothing. -/
def total (w : FVec F S2x8x512x4096 .f32) : FVec F S2x8x512x1 .f32 :=
  select (broadcastInDim S2x8x512x1 ![0, 1, 2, 3] bcast_S1x1x512x1_S2x8x512x1_0_1_2_3 (broadcastInDim S1x1x512x1 ![2] bcast_S512_S1x1x512x1_2 keep))
    (broadcastInDim S2x8x512x1 ![0, 1, 2] bcast_S2x8x512_S2x8x512x1_0_1_2 (Host.reduceAdd w (constant S_ .f32 0x00000000#32) reducesTo_S2x8x512x4096_S2x8x512_d3 h_S_))
    (broadcastInDim S2x8x512x1 ![] bcast_S_S2x8x512x1 (id (constant S_ .f32 0x3F800000#32)))

/-- The normalised weights, zero where a row sees nothing. -/
def weights (w : FVec F S2x8x512x4096 .f32) : FVec F S2x8x512x4096 .f32 :=
  select (broadcastInDim S2x8x512x4096 ![0, 1, 2, 3] bcast_S1x1x512x1_S2x8x512x4096_0_1_2_3 (broadcastInDim S1x1x512x1 ![2] bcast_S512_S1x1x512x1_2 keep))
    (Host.divf w (broadcastInDim S2x8x512x4096 ![0, 1, 2, 3] bcast_S2x8x512x1_S2x8x512x4096_0_1_2_3 (total w)))
    (broadcastInDim S2x8x512x4096 ![] bcast_S_S2x8x512x4096 (id (constant S_ .f32 0x00000000#32)))

/-- The values averaged by the weights, heads and their columns apart. -/
def mean (p : FVec F S2x8x512x4096 .f32) (v : FVec F S2x4096x8x64 .bf16) : FVec F S2x8x64x512 .f32 :=
  Host.dotGeneral dot_S2x4096x8x64_S2x8x512x4096_S2x8x64x512_1_3_3_2_02_01 none (extf .f32 v bitsLt_bf16_f32) p

/-- The output projection of the heads put side by side. -/
def project (o : FVec F S2x8x64x512 .f32) (wo : FVec F S512x768 .bf16) : FVec F S2x512x768 .f32 :=
  Host.dotGeneral dot_S2x512x512_S512x768_S2x512x768_2_0_01_1_n_n none
    (shapeCast _ (transpose S2x512x8x64 [0, 3, 1, 2] o transposes_S2x8x64x512_S2x512x8x64_0_3_1_2) shapeCasts_S2x512x8x64_S2x512x512) (extf .f32 wo bitsLt_bf16_f32)

/-- The reference's result, from its five arguments. -/
def result (x : FVec F S2x512x768 .bf16) (wq : FVec F S768x512 .bf16) (k v : FVec F S2x4096x8x64 .bf16) (wo : FVec F S512x768 .bf16) : FVec F S2x512x768 .f32 :=
  project (mean (weights (expo (scores (queries x wq) k))) v) wo

/-- The result that the run leaves is the composed one. -/
theorem res_eq (m : (ℓ : Loc nD τ sig) → Buf (Elt F) ℓ) (c : Dev nD) :
    res_main_v38 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v38
  rfl

end Cert.ReferenceIdeal.Tree
-- ==== Proof.Softmax.lean ====
module

public import Idealize.ShloMosaic.Lib.IdealHost

/-! The two ways of normalising a row of attention weights, over the extended reals: the one subtracts a finite
number from every score and divides each weight by the sum, the other sums first and multiplies by the reciprocal. -/

@[expose] public section

noncomputable section

namespace Cert.Softmax

open Idealize.ShloMosaic

/-- The float word of minus infinity. -/
theorem word_bot : Ideal.ofBits .f32 0xFF800000#32 = ⊥ := by simp [Ideal.ofBits, Ideal.ieee]

/-- The float word of one eighth. -/
theorem word_eighth : Ideal.ofBits .f32 0x3E000000#32 = ((1 / 8 : ℝ) : EReal) := by
  simp [Ideal.ofBits, Ideal.ieee, -EReal.coe_mul]; norm_num

/-- The half-width word of minus infinity. -/
theorem half_bot : Ideal.ofBits .bf16 0xFF80#16 = ⊥ := by simp [Ideal.ofBits, Ideal.ieee]

/-- The half-width word of plus infinity. -/
theorem half_top : Ideal.ofBits .bf16 0x7F80#16 = ⊤ := by simp [Ideal.ofBits, Ideal.ieee]

/-- A finite nonnegative factor goes into a sum. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of reals is the sum of their images. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- Finite numbers have a finite sum. -/
theorem sum_real {ι : Type} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := hf a (Finset.mem_insert_self a s)
    obtain ⟨y, hy⟩ := ih fun i hi => hf i (Finset.mem_insert_of_mem hi)
    exact ⟨x + y, by rw [Finset.sum_insert ha, hx, hy, EReal.coe_add]⟩

/-- The exponential of a score below plus infinity is a finite nonnegative number. -/
theorem exp_real {x : EReal} (hx : x ≠ ⊤) : ∃ r : ℝ, 0 ≤ r ∧ Ideal.exp x = r := by
  induction x with
  | bot => exact ⟨0, le_refl _, by simp⟩
  | top => exact absurd rfl hx
  | coe x => exact ⟨Real.exp x, (Real.exp_pos x).le, rfl⟩

/-- Subtracting a finite number from a score divides its exponential by a positive factor. -/
theorem exp_sub_real {x : EReal} (hx : x ≠ ⊤) (m : ℝ) : Ideal.exp (x - (m : EReal)) = Ideal.exp x * ((Real.exp (-m) : ℝ) : EReal) := by
  induction x with
  | bot => simp
  | top => exact absurd rfl hx
  | coe x =>
    rw [← EReal.coe_sub, Ideal.exp_coe, Ideal.exp_coe, ← EReal.coe_mul, sub_eq_add_neg, Real.exp_add]

/-- The sum of the exponentials of scores, one of them finite, is a positive real. -/
theorem sum_exp_pos {ι : Type} [Fintype ι] (s : ι → EReal) (hs : ∀ i, s i ≠ ⊤) (i₀ : ι) (h₀ : s i₀ ≠ ⊥) :
    ∃ z : ℝ, 0 < z ∧ ∑ i, Ideal.exp (s i) = z := by
  choose r hr he using fun i => exp_real (hs i)
  refine ⟨∑ i, r i, ?_, ?_⟩
  · refine Finset.sum_pos' (fun i _ => hr i) ⟨i₀, Finset.mem_univ _, ?_⟩
    have h := he i₀
    generalize hx : s i₀ = x at h h₀
    have ht : x ≠ ⊤ := hx ▸ hs i₀
    induction x with
    | bot => exact absurd rfl h₀
    | top => exact absurd rfl ht
    | coe x =>
      have h' : Real.exp x = r i₀ := EReal.coe_injective ((Ideal.exp_coe x).symm.trans h)
      rw [← h']; exact Real.exp_pos x
  · rw [Finset.sum_congr rfl fun i _ => he i]
    exact (coe_sum _ r).symm

/-- One row: the weighted mean computed either way. -/
theorem row {ι : Type} [Fintype ι] (s v : ι → EReal) (hs : ∀ i, s i ≠ ⊤) (i₀ : ι) (h₀ : s i₀ ≠ ⊥) (m : ℝ) :
    ∑ i, v i * Ideal.div (Ideal.exp (s i - (m : EReal))) (∑ k, Ideal.exp (s k - (m : EReal)))
      = (∑ i, Ideal.exp (s i) * v i) * Ideal.div 1 (∑ k, Ideal.exp (s k)) := by
  obtain ⟨z, hz, he⟩ := sum_exp_pos s hs i₀ h₀
  have hm : (0 : ℝ) < Real.exp (-m) := Real.exp_pos _
  have e : ∑ k, Ideal.exp (s k - (m : EReal)) = ((z * Real.exp (-m) : ℝ) : EReal) := by
    rw [Finset.sum_congr rfl fun k _ => exp_sub_real (hs k) m, ← sum_mul_real _ _ hm.le, he, EReal.coe_mul]
  rw [e, he, Ideal.div_coe hz.ne', one_mul, sum_mul_real _ _ (by positivity)]
  refine Finset.sum_congr rfl fun i _ => ?_
  rw [Ideal.div_coe (mul_pos hz hm).ne', exp_sub_real (hs i) m]
  obtain ⟨r, _, hr⟩ := exp_real (hs i)
  rw [hr, ← EReal.coe_mul, ← EReal.coe_mul, mul_comm (r : EReal) (v i), mul_assoc (v i), ← EReal.coe_mul]
  congr 2
  field_simp

/-- The greatest of scores below plus infinity, one of them finite, is a real. -/
theorem fold_max_real {ι : Type} [Fintype ι] (s : ι → EReal) (hs : ∀ i, s i ≠ ⊤) (i₀ : ι) (h₀ : s i₀ ≠ ⊥) :
    ∃ m : ℝ, Finset.univ.fold max ⊥ s = (m : EReal) := by
  have hb : s i₀ ≤ Finset.univ.fold max ⊥ s := Finset.le_fold_max _ |>.mpr (Or.inr ⟨i₀, Finset.mem_univ _, le_refl _⟩)
  have ht : Finset.univ.fold max ⊥ s < ⊤ := Finset.fold_max_lt _ |>.mpr ⟨bot_lt_top, fun i _ => lt_top_iff_ne_top.mpr (hs i)⟩
  generalize Finset.univ.fold max ⊥ s = x at hb ht
  induction x with
  | bot => exact absurd (le_bot_iff.mp hb) h₀
  | top => exact absurd ht (lt_irrefl _)
  | coe m => exact ⟨m, rfl⟩

/-- Scores of minus infinity carry no weight: the row's mean over all keys is that over the first ones. -/
theorem row_cut {n k : ℕ} (s v : Fin (n + k) → EReal) (hs : ∀ i : Fin k, s (Fin.natAdd n i) = ⊥) :
    (∑ i, Ideal.exp (s i) * v i) * Ideal.div 1 (∑ i, Ideal.exp (s i))
      = (∑ i : Fin n, Ideal.exp (s (Fin.castAdd k i)) * v (Fin.castAdd k i)) * Ideal.div 1 (∑ i : Fin n, Ideal.exp (s (Fin.castAdd k i))) := by
  rw [Fin.sum_univ_add, Fin.sum_univ_add]
  simp only [hs, Ideal.exp_bot, zero_mul, Finset.sum_const_zero, add_zero]

end Cert.Softmax
-- ==== Proof.RefRead.lean ====
module

public import proofs.«01_k».proof.Proof.Ref
public import proofs.«01_k».proof.Proof.Softmax

/-! The steps of the reference read at an index, over the extended reals. -/

@[expose] public section

set_option maxRecDepth 16384

noncomputable section

namespace Cert.ReferenceIdeal.Tree

open Cert.ReferenceIdeal Cert.ReferenceIdeal.Gen Cert.ReferenceIdeal.Value Idealize.ShloMosaic Idealize.ShloMosaic.TcCoe

/-- The column of the projections that head `h` holds at place `d`. -/
abbrev hcol (h : Fin 8) (d : Fin 64) : Fin 512 := ⟨64 * h.val + d.val, by have := h.isLt; have := d.isLt; omega⟩

/-- A query is its row of activations against its column of weights. -/
theorem queries_apply (x : FVec Ideal S2x512x768 .bf16) (wq : FVec Ideal S768x512 .bf16) (b : Fin 2) (p : Fin 512) (h : Fin 8) (d : Fin 64) :
    queries x wq (ix4 b p h d) = ∑ n : Fin 768, x (ix3 b p n) * wq (ix2 n (hcol h d)) := by
  pointwise [queries]
  refine Finset.sum_congr rfl fun n _ => ?_
  congr 3
  exact Fin.ext (by show h.val * 64 + d.val = 64 * h.val + d.val; omega)

/-- A score: the query against the key, scaled, where the key is seen. -/
theorem scores_apply (q : FVec Ideal S2x512x8x64 .f32) (k : FVec Ideal S2x4096x8x64 .bf16) (b : Fin 2) (h : Fin 8) (p : Fin 512) (j : Fin 4096) :
    scores q k (ix4 b h p j) = Scalar.select (seen (ix2 p j)) ((∑ d : Fin 64, q (ix4 b p h d) * k (ix4 b j h d)) * ((1 / 8 : ℝ) : EReal)) ⊥ := by
  pointwise [scores]
  rw [Softmax.word_eighth]
  exact congrArg _ Softmax.word_bot

/-- A row's greatest score. -/
theorem top_apply (s : FVec Ideal S2x8x512x4096 .f32) (b : Fin 2) (h : Fin 8) (p : Fin 512) :
    top s (ix3 b h p) = Finset.univ.fold max ⊥ fun j : Fin 4096 => s (ix4 b h p j) := by
  pointwise [top]
  rw [Softmax.word_bot]

/-- A weight: the exponential of a score less its row's greatest. -/
theorem expo_apply (s : FVec Ideal S2x8x512x4096 .f32) (b : Fin 2) (h : Fin 8) (p : Fin 512) (j : Fin 4096) :
    expo s (ix4 b h p j) = Ideal.exp (s (ix4 b h p j) - top s (ix3 b h p)) := by
  pointwise [expo]

/-- A row that sees some key has the sum of its weights as its divisor. -/
theorem total_apply (w : FVec Ideal S2x8x512x4096 .f32) (b : Fin 2) (h : Fin 8) (p : Fin 512) (hk : keep (ix1 p) = 1#1) :
    total w (ix4 b h p (0 : Fin 1)) = ∑ j : Fin 4096, w (ix4 b h p j) := by
  pointwise [total]
  rw [hk]
  exact ValueIdx.select_one _ _

/-- Each weight of such a row is divided by that sum. -/
theorem weights_apply (w : FVec Ideal S2x8x512x4096 .f32) (b : Fin 2) (h : Fin 8) (p : Fin 512) (j : Fin 4096) (hk : keep (ix1 p) = 1#1) :
    weights w (ix4 b h p j) = Ideal.div (w (ix4 b h p j)) (total w (ix4 b h p (0 : Fin 1))) := by
  pointwise [weights]
  rw [hk]
  exact ValueIdx.select_one _ _

/-- The mean of the values by the weights. -/
theorem mean_apply (p : FVec Ideal S2x8x512x4096 .f32) (v : FVec Ideal S2x4096x8x64 .bf16) (b : Fin 2) (h : Fin 8) (d : Fin 64) (r : Fin 512) :
    mean p v (ix4 b h d r) = ∑ j : Fin 4096, v (ix4 b j h d) * p (ix4 b h r j) := by
  pointwise [mean]

/-- A result is the row's means, all heads side by side, against a column of the output weights. -/
theorem project_apply (o : FVec Ideal S2x8x64x512 .f32) (wo : FVec Ideal S512x768 .bf16) (b : Fin 2) (p : Fin 512) (n : Fin 768) :
    project o wo (ix3 b p n) = ∑ c : Fin 512, o (ix4 b ⟨c.val / 64, by have := c.isLt; omega⟩ ⟨c.val % 64, Nat.mod_lt _ (by norm_num)⟩ p) * wo (ix2 c n) := by
  pointwise [project]

end Cert.ReferenceIdeal.Tree
-- ==== Proof.RefMask.lean ====
module

public import proofs.«01_k».proof.Proof.Ref

/-! The reference's mask: a key is seen from a row when its block of 64 is not after the row's. -/

@[expose] public section

set_option maxRecDepth 16384

noncomputable section

namespace Cert.ReferenceIdeal.Tree

open Cert.ReferenceIdeal Cert.ReferenceIdeal.Gen Cert.ReferenceIdeal.Value Idealize.ShloMosaic Idealize.ShloMosaic.TcCoe

/-- The quotient by 64 rounded down, as the reference computes it of a word. -/
def floor64 (x : BitVec 32) : BitVec 32 :=
  Scalar.select
    (IntOp.andi (IntOp.cmpi .ne ((if x = 0 then 0 else if x.msb = true then -1 else 1) : BitVec 32) (if 64#32 = 0 then 0 else if (64#32).msb = true then -1 else 1))
      (IntOp.cmpi .ne (IntOp.remsi .host x 64#32) 0#32))
    (IntOp.subi (IntOp.divsi .host x 64#32) 1#32) (IntOp.divsi .host x 64#32)

/-- The words compute the quotient. -/
theorem floor64_ofNat : ∀ j : Fin 4096, floor64 (BitVec.ofNat 32 j.val) = BitVec.ofNat 32 (j.val / 64) := by decide +kernel

/-- A key's block. -/
theorem colBlk_apply (j : Fin 4096) : colBlk (ix1 j) = BitVec.ofNat 32 (j.val / 64) := by
  refine Eq.trans ?_ (floor64_ofNat j)
  pointwise [colBlk]
  rfl

/-- A row's block. -/
theorem rowBlk_apply (p : Fin 512) : rowBlk (ix1 p) = BitVec.ofNat 32 (p.val / 64) := by
  refine Eq.trans ?_ (floor64_ofNat ⟨p.val, by have := p.isLt; omega⟩)
  pointwise [rowBlk]
  rfl

/-- Comparing blocks as words compares them as numbers. -/
theorem sle_blocks : ∀ (a : Fin 64) (b : Fin 8), IntOp.cmpi .sle (BitVec.ofNat 32 a.val) (BitVec.ofNat 32 b.val) = if a.val ≤ b.val then 1#1 else 0#1 := by decide +kernel

/-- A row sees the keys of its block and of those before. -/
theorem seen_apply (p : Fin 512) (j : Fin 4096) : seen (ix2 p j) = if j.val / 64 ≤ p.val / 64 then 1#1 else 0#1 := by
  refine Eq.trans ?_ (sle_blocks ⟨j.val / 64, by have := j.isLt; omega⟩ ⟨p.val / 64, by have := p.isLt; omega⟩)
  pointwise [seen]
  rw [colBlk_apply, rowBlk_apply]

/-- A row sees the first key. -/
theorem keep_apply (p : Fin 512) : keep (ix1 p) = 1#1 := by
  have e : keep (ix1 p) = Finset.univ.fold IntOp.ori (0#1) fun j : Fin 4096 => seen (ix2 p j) := by pointwise [keep]
  rw [e]
  have one : ∀ (s : Finset (Fin 4096)), (0 : Fin 4096) ∈ s → s.fold IntOp.ori (0#1) (fun j => seen (ix2 p j)) = 1#1 := by
    intro s hs
    rw [← Finset.insert_erase hs, Finset.fold_insert (Finset.notMem_erase _ _), seen_apply, if_pos (by show (0 : ℕ) / 64 ≤ _; omega)]
    generalize Finset.fold IntOp.ori _ _ _ = x
    revert x; decide
  exact one _ (Finset.mem_univ _)

end Cert.ReferenceIdeal.Tree
-- ==== Proof.KerRead.lean ====
module

public import proofs.«01_k».proof.Proof.Body
public import proofs.«01_k».proof.Proof.Softmax
public import Idealize.ShloMosaic.Lib.Pointwise

/-! What a device of the kernel puts out, read at an index over the extended reals. -/

@[expose] public section

set_option maxRecDepth 16384

noncomputable section

namespace Cert.KernelIdeal.Tree

open Cert.KernelIdeal Cert.KernelIdeal.Gen Idealize.ShloMosaic Idealize.ShloMosaic.TcCoe

/-- The row of the flattened queries that batch entry `b` holds at place `p`. -/
abbrev brow (b : Fin 2) (p : Fin 512) : Fin 1024 := ⟨512 * b.val + p.val, by have := b.isLt; have := p.isLt; omega⟩

/-- The column of the projections that head `h` holds at place `d`. -/
abbrev hcol (h : Fin 8) (d : Fin 64) : Fin 512 := ⟨64 * h.val + d.val, by have := h.isLt; have := d.isLt; omega⟩

/-- A head's keys or values of a batch entry, as the gathered array holds them. -/
theorem box_apply {F : FTy → Type} (kv : S8x2x2x512x64.Idx → Elt F .bf16) (h : Fin 8) (s b : Fin 2) (j : Fin 512) (d : Fin 64) :
    boxAt kv h s b (ix5 (0 : Fin 1) (0 : Fin 1) (0 : Fin 1) j d) = kv (ix5 h s b j d) := by
  refine congrArg kv (funext fun a => Fin.ext ?_)
  match a with
  | 0 => show h.val + 1 * 0 = _; rfl
  | 1 => show s.val + 1 * 0 = _; rfl
  | 2 => show b.val + 1 * 0 = _; rfl
  | 3 => show 0 + 1 * j.val = j.val; omega
  | 4 => show 0 + 1 * d.val = d.val; omega

/-- A scaled query is its row of activations against its column of weights, times one eighth. -/
theorem query_apply (x : Vec Ideal S2x512x768 .bf16) (wq : Vec Ideal S768x512 .bf16) (b : Fin 2) (p : Fin 512) (c : Fin 512) :
    k0_pay35 x wq (ix2 (brow b p) c) = (∑ n : Fin 768, x (ix3 b p n) * wq (ix2 n c)) * ((1 / 8 : ℝ) : EReal) := by
  pointwise [k0_pay35]
  rw [Softmax.word_eighth]
  have hp := p.isLt
  refine congrArg (· * ((1 / 8 : ℝ) : EReal)) (Finset.sum_congr rfl fun n _ => ?_)
  congr 2
  refine congrArg₂ (fun u v => ix3 u v n) (Fin.ext ?_) (Fin.ext ?_)
  · show (512 * b.val + p.val) / 512 = b.val; omega
  · show (512 * b.val + p.val) % 512 = p.val; omega

/-- The score of a query and a key, minus infinity where the key is not seen. -/
def score (q : FVec Ideal S1024x512 .bf16) (m : IVec S512x512 1) (kv : S8x2x2x512x64.Idx → EReal) (h : Fin 8) (b : Fin 2) (p j : Fin 512) : EReal :=
  Scalar.select (m (ix2 p j)) (∑ d : Fin 64, q (ix2 (brow b p) (hcol h d)) * kv (ix5 h (0 : Fin 2) b j d)) ⊥

/-- The attention of a row: the values averaged by the exponentials of the scores. -/
theorem att_apply (q : FVec Ideal S1024x512 .bf16) (m : IVec S512x512 1) (kv : S8x2x2x512x64.Idx → EReal) (h : Fin 8) (b : Fin 2) (p : Fin 512) (d : Fin 64) :
    attAt (F := Ideal) q m kv h b (ix2 p d)
      = (∑ j : Fin 512, Ideal.exp (score q m kv h b p j) * kv (ix5 h (1 : Fin 2) b j d)) * Ideal.div 1 (∑ j : Fin 512, Ideal.exp (score q m kv h b p j)) := by
  have hm : Named.named (F := Ideal) κ "mask" (φ := .f32) 0xCE6E6B28#32 = (⊥ : EReal) := IdealRules.named_const.ideal_named_scalar _ _ _ _ rfl
  have e : ∀ s j d, boxAt (F := Ideal) kv h s b (ix5 (0 : Fin 1) (0 : Fin 1) (0 : Fin 1) j d) = kv (ix5 h s b j d) := fun s j d => box_apply (F := Ideal) kv h s b j d
  unfold attAt
  generalize hk : boxAt (F := Ideal) kv h 0 b = k
  generalize hv : boxAt (F := Ideal) kv h 1 b = v
  pointwise [att]
  rw [hm]
  subst hk hv
  simp only [e]
  rfl

/-- The quotient by 64 rounded down, as the kernel computes it of a word. -/
def floor64 (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The words compute the quotient. -/
theorem floor64_ofNat : ∀ j : Fin 512, floor64 (BitVec.ofNat 32 j.val) = BitVec.ofNat 32 (j.val / 64) := by decide +kernel

/-- Comparing blocks as words compares them as numbers. -/
theorem sle_blocks : ∀ a b : Fin 8, IntOp.cmpi .sle (BitVec.ofNat 32 a.val) (BitVec.ofNat 32 b.val) = if a.val ≤ b.val then 1#1 else 0#1 := by decide +kernel

/-- A row sees the keys of its block and of those before. -/
theorem mask_apply (p j : Fin 512) : maskV (ix2 p j) = if j.val / 64 ≤ p.val / 64 then 1#1 else 0#1 := by
  have e : maskV (ix2 p j) = IntOp.cmpi .sle (floor64 (BitVec.ofNat 32 j.val)) (floor64 (BitVec.ofNat 32 p.val)) := by
    pointwise [maskV, k0_pay40, k0_pay39, k0_pay38, k0_pay37, k0_pay36]
    rfl
  rw [e, floor64_ofNat, floor64_ofNat]
  exact sle_blocks ⟨j.val / 64, by have := j.isLt; omega⟩ ⟨p.val / 64, by have := p.isLt; omega⟩

/-- A result is the row's means against a column of the output weights. -/
theorem project_apply (o : Vec Ideal S1024x512 .bf16) (wo : Vec Ideal S512x768 .bf16) (b : Fin 2) (p : Fin 512) (n : Fin 768) :
    k0_pay2 o wo (ix3 b p n) = ∑ c : Fin 512, o (ix2 (brow b p) c) * wo (ix2 c n) := by
  pointwise [k0_pay2]
  refine Finset.sum_congr rfl fun c _ => ?_
  congr 3
  exact Fin.ext (by show b.val * 512 + p.val = 512 * b.val + p.val; omega)

/-- Where the attention of a head and batch entry lies among the rows and columns that are projected. -/
theorem ctx_apply (q : FVec Ideal S1024x512 .bf16) (m : IVec S512x512 1) (kv : S8x2x2x512x64.Idx → EReal) (b : Fin 2) (p c : Fin 512) :
    ctx (F := Ideal) q m kv (ix2 (brow b p) c)
      = attAt (F := Ideal) q m kv ⟨c.val / 64, by have := c.isLt; omega⟩ b (ix2 p ⟨c.val % 64, Nat.mod_lt _ (by norm_num)⟩) := by
  have hp := p.isLt
  have g : ∀ (h : Fin 8) (b' : Fin 2) (p' : Fin 512) (d : Fin 64), b' = b → p' = p →
      attAt (F := Ideal) q m kv h b' (ix2 p' d) = attAt (F := Ideal) q m kv h b (ix2 p d) := by
    rintro _ _ _ _ rfl rfl; rfl
  refine g _ _ _ _ (Fin.ext ?_) (Fin.ext ?_)
  · show (512 * b.val + p.val) / 512 = b.val; omega
  · show (512 * b.val + p.val) % 512 = p.val; omega

end Cert.KernelIdeal.Tree
-- ==== Proof.Values.lean ====
module

public import proofs.«01_k».proof.Proof.RefRead
public import proofs.«01_k».proof.Proof.RefMask
public import proofs.«01_k».proof.Proof.KerRead

/-! The kernel's result and the reference's are the same extended reals. The kernel scales the queries and the
reference the scores; the kernel attends to the first 512 keys and the reference to all 4096, of which no row sees
more than the first 512; and the two normalise their weights differently. -/

@[expose] public section

set_option maxRecDepth 16384

noncomputable section

namespace Cert.Values

open Idealize.ShloMosaic Idealize.ShloMosaic.TcCoe Cert.ReferenceIdeal
open Cert.ReferenceIdeal.Tree (seen keep queries scores top expo total weights mean project result)

/-- A key of the first 512, among all. -/
abbrev near (j : Fin 512) : Fin 4096 := Fin.castAdd (m := 3584) j

/-- The product of two finite numbers is finite. -/
theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

section

variable (x : Vec Ideal S2x512x768 .bf16) (wq : Vec Ideal S768x512 .bf16) (k v : Vec Ideal S2x4096x8x64 .bf16) (wo : Vec Ideal S512x768 .bf16)
  (kv : Cert.KernelIdeal.S8x2x2x512x64.Idx → EReal)

/-- The reference's score of a row and a key. -/
theorem ref_score (b : Fin 2) (h : Fin 8) (p : Fin 512) (j : Fin 4096) :
    scores (F := Ideal) (queries x wq) k (ix4 b h p j)
      = if j.val / 64 ≤ p.val / 64 then
          (∑ d : Fin 64, (∑ n : Fin 768, x (ix3 b p n) * wq (ix2 n (Cert.KernelIdeal.Tree.hcol h d))) * k (ix4 b j h d)) * ((1 / 8 : ℝ) : EReal)
        else ⊥ := by
  rw [Tree.scores_apply, Tree.seen_apply]
  split
  · refine (ValueIdx.select_one _ _).trans (congrArg (· * ((1 / 8 : ℝ) : EReal)) (Finset.sum_congr rfl fun d _ => ?_))
    rw [Tree.queries_apply]
  · exact ValueIdx.select_zero _ _

/-- Scores of seen keys are finite. -/
theorem ref_score_real (hx : ∀ i, ∃ r : ℝ, x i = (r : EReal)) (hw : ∀ i, ∃ r : ℝ, wq i = (r : EReal)) (hk : ∀ i, ∃ r : ℝ, k i = (r : EReal))
    (b : Fin 2) (h : Fin 8) (p : Fin 512) (j : Fin 4096) (hj : j.val / 64 ≤ p.val / 64) :
    ∃ r : ℝ, scores (F := Ideal) (queries x wq) k (ix4 b h p j) = (r : EReal) := by
  rw [ref_score, if_pos hj]
  exact mul_real (Softmax.sum_real _ _ fun d _ => mul_real (Softmax.sum_real _ _ fun n _ => mul_real (hx _) (hw _)) (hk _)) ⟨_, rfl⟩

/-- The kernel's score is the reference's. -/
theorem score_eq (hk : ∀ h b j d, kv (ix5 h (0 : Fin 2) b j d) = k (ix4 b (near j) h d)) (b : Fin 2) (h : Fin 8) (p j : Fin 512) :
    Cert.KernelIdeal.Tree.score (Cert.KernelIdeal.Gen.k0_pay35 x wq) Cert.KernelIdeal.Tree.maskV kv h b p j
      = scores (F := Ideal) (queries x wq) k (ix4 b h p (near j)) := by
  rw [ref_score, Cert.KernelIdeal.Tree.score, Cert.KernelIdeal.Tree.mask_apply]
  show _ = if j.val / 64 ≤ p.val / 64 then _ else _
  split
  · refine (ValueIdx.select_one _ _).trans ?_
    rw [Softmax.sum_mul_real _ _ (by norm_num : (0 : ℝ) ≤ 1 / 8)]
    refine Finset.sum_congr rfl fun d _ => ?_
    rw [Cert.KernelIdeal.Tree.query_apply, hk, mul_right_comm]
  · exact ValueIdx.select_zero _ _

/-- The attention of one row and head. -/
theorem attention_eq (hx : ∀ i, ∃ r : ℝ, x i = (r : EReal)) (hw : ∀ i, ∃ r : ℝ, wq i = (r : EReal)) (hf : ∀ i, ∃ r : ℝ, k i = (r : EReal))
    (hk : ∀ h b j d, kv (ix5 h (0 : Fin 2) b j d) = k (ix4 b (near j) h d))
    (hv : ∀ h b j d, kv (ix5 h (1 : Fin 2) b j d) = v (ix4 b (near j) h d)) (b : Fin 2) (h : Fin 8) (p : Fin 512) (d : Fin 64) :
    Cert.KernelIdeal.Tree.attAt (F := Ideal) (Cert.KernelIdeal.Gen.k0_pay35 x wq) Cert.KernelIdeal.Tree.maskV kv h b (ix2 p d)
      = mean (F := Ideal) (weights (expo (scores (queries x wq) k))) v (ix4 b h d p) := by
  have hr := ref_score_real x wq k hx hw hf b h p
  have hn : ∀ j : Fin 4096, ¬ j.val / 64 ≤ p.val / 64 → scores (F := Ideal) (queries x wq) k (ix4 b h p j) = ⊥ := fun j hj => by
    rw [ref_score, if_neg hj]
  have ht := Tree.top_apply (scores (F := Ideal) (queries x wq) k) b h p
  have he := Tree.expo_apply (scores (F := Ideal) (queries x wq) k) b h p
  have hsc := score_eq x wq k kv hk b h p
  rw [Cert.KernelIdeal.Tree.att_apply]
  simp only [hsc, hv]
  rw [Tree.mean_apply]
  simp only [Tree.weights_apply _ _ _ _ _ (Tree.keep_apply p), Tree.total_apply _ _ _ _ (Tree.keep_apply p), he]
  generalize scores (F := Ideal) (queries x wq) k = s at *
  have h0 : ((0 : Fin 4096).val / 64 ≤ p.val / 64) := by show (0 : ℕ) / 64 ≤ _; omega
  have hb : s (ix4 b h p (0 : Fin 4096)) ≠ ⊥ := by
    obtain ⟨r, e⟩ := hr 0 h0
    rw [e]; exact EReal.coe_ne_bot r
  have htop : ∀ j : Fin 4096, s (ix4 b h p j) ≠ ⊤ := fun j => by
    by_cases hj : j.val / 64 ≤ p.val / 64
    · obtain ⟨r, e⟩ := hr j hj
      rw [e]; exact EReal.coe_ne_top r
    · rw [hn j hj]; exact bot_ne_top
  obtain ⟨m, hm⟩ := Softmax.fold_max_real (fun j : Fin 4096 => s (ix4 b h p j)) htop 0 hb
  rw [ht, hm]
  refine Eq.trans ?_ (Softmax.row (fun j : Fin 4096 => s (ix4 b h p j)) (fun j => v (ix4 b j h d)) htop 0 hb m).symm
  refine (Softmax.row_cut (n := 512) (k := 3584) (fun j => s (ix4 b h p j)) (fun j => v (ix4 b j h d)) fun j => hn _ ?_).symm
  show ¬ (512 + j.val) / 64 ≤ p.val / 64
  have := p.isLt
  omega

/-- The kernel's result is the reference's. -/
theorem result_eq (hx : ∀ i, ∃ r : ℝ, x i = (r : EReal)) (hw : ∀ i, ∃ r : ℝ, wq i = (r : EReal)) (hf : ∀ i, ∃ r : ℝ, k i = (r : EReal))
    (hk : ∀ h b j d, kv (ix5 h (0 : Fin 2) b j d) = k (ix4 b (near j) h d))
    (hv : ∀ h b j d, kv (ix5 h (1 : Fin 2) b j d) = v (ix4 b (near j) h d)) (b : Fin 2) (p : Fin 512) (n : Fin 768) :
    Cert.KernelIdeal.Tree.outV (F := Ideal) kv x wq wo (ix3 b p n) = result (F := Ideal) x wq k v wo (ix3 b p n) := by
  rw [Cert.KernelIdeal.Tree.outV, result, Cert.KernelIdeal.Tree.project_apply, Tree.project_apply]
  refine Finset.sum_congr rfl fun c _ => ?_
  rw [Cert.KernelIdeal.Tree.ctx_apply, attention_eq x wq k v kv hx hw hf hk hv]

end

end Cert.Values
-- ==== Proof.Algebraic.lean ====
module

public import proofs.«01_k».proof.Proof.Frames
public import proofs.«01_k».proof.Proof.Values

/-! The idealized kernel computes what the reference computes: from inputs whose scores are finite, each device ends
with the reference's whole result. -/

@[expose] public section

set_option maxRecDepth 16384

noncomputable section

namespace Cert.Proof

open Idealize.ShloMosaic Idealize.SL.Sem Idealize.ShloMosaic.TcCoe

/-- The shape relations of the precondition, on one device's arrays. -/
theorem finite_kernel_facts : Cert.Pre_finite_KernelIdeal.Facts := ⟨by decide, by decide, by decide⟩

/-- The shape relations of the precondition, on the whole arrays. -/
theorem finite_reference_facts : Cert.Pre_finite_ReferenceIdeal.Facts := ⟨by decide, by decide, by decide⟩

/-- A number strictly between the infinities is finite. -/
theorem real_of_between {a : EReal} (h : IntOp.andi (FloatOps.cmpf (F := Ideal) (φ := .bf16) .ogt a (Ideal.ofBits .bf16 0xFF80#16))
    (FloatOps.cmpf (F := Ideal) (φ := .bf16) .olt a (Ideal.ofBits .bf16 0x7F80#16)) = 1#1) : ∃ r : ℝ, a = (r : EReal) := by
  rw [Softmax.half_bot, Softmax.half_top] at h
  induction a with
  | bot => exact absurd h (by simp [Ideal.cmpf_def, Ideal.cmp, IntOp.andi])
  | top => exact absurd h (by simp [Ideal.cmpf_def, Ideal.cmp, IntOp.andi])
  | coe r => exact ⟨r, rfl⟩

section

open Cert.KernelIdeal Cert.KernelIdeal.Gen Cert.KernelIdeal.Tree

variable (m : (ℓ : Loc nD τ sig) → Buf (Elt Ideal) ℓ)

/-- A device's activations are its first argument. -/
theorem xAt_eq (c : Dev nD) : xAt m c = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

/-- A device's query weights are its second argument. -/
theorem wqAt_eq (c : Dev nD) : wqAt m c = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

/-- A device's keys are its third argument. -/
theorem kAt_eq (c : Dev nD) : kAt m c = m ((c.tc : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _

/-- A device's values are its fourth argument. -/
theorem vAt_eq (c : Dev nD) : vAt m c = m ((c.tc : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _

/-- A device's output weights are its fifth argument. -/
theorem woAt_eq (c : Dev nD) : woAt m c = m ((c.tc : Thread nD τ).loc main_arg4) := by
  have hz : (fun a => (win0_4.index (0 : Fin 1)) a * main_arg4.ty.shape.size a) = fun _ => 0 := funext fun a => by fin_cases a <;> decide
  exact Memref.read_access_unit_zero (Elt Ideal) main_arg4 hz (fun a => by fin_cases a <;> decide) _

/-- A device's result buffer ends as the value its body computes. -/
theorem ideal_result (r : _) (h : QC m r) (c : Dev nD) : r.2.mem ((c.tc : Thread nD τ).loc main_v1) = outAt m c := by
  have hz : (fun a => (win0_5.index (0 : Fin 1)) a * main_v1.ty.shape.size a) = fun _ => 0 := funext fun a => by fin_cases a <;> decide
  have hr := fun f => Memref.read_access_unit_zero (Elt Ideal) main_v1 hz (fun a => by fin_cases a <;> decide) f
  have ho := final_out m c
  rw [hr] at ho
  exact (h c (5 : Fin 6)).trans ho

end

/-- The precondition makes a device's activations, query weights and keys finite. -/
theorem finite_real (m : (ℓ : Loc Cert.KernelIdeal.nD Cert.KernelIdeal.τ Cert.KernelIdeal.sig) → Buf (Elt Ideal) ℓ)
    (h : Cert.Pre_KernelIdeal_finite_KernelIdeal (hPre_finite_KernelIdeal := finite_kernel_facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  ⟨fun i => real_of_between (congrFun (h c).1 i), fun i => real_of_between (congrFun (h c).2.1 i), fun i => real_of_between (congrFun (h c).2.2 i)⟩

/-- A block of an array cut along its second axis, read at an index. -/
theorem block_at (a : (⟨4, ![2, 4096, 8, 64]⟩ : Shape).Idx → EReal) (c : Fin 8) (b : Fin 2) (j : Fin 512) (h : Fin 8) (d : Fin 64) :
    (Layout.block ⟨4, ![2, 512, 8, 64]⟩ ⟨4, ![2, 4096, 8, 64]⟩ 1 8 c a) (ix4 b j h d)
      = a (ix4 b (⟨c.val * 512 + j.val, by have := c.isLt; have := j.isLt; omega⟩ : Fin 4096) h d) := by
  rw [Layout.block_apply]
  refine congrArg a (funext fun i => Fin.ext ?_)
  rw [Layout.Tiles.idx_val]
  fin_cases i <;> rfl

/-- The first block is the array's beginning. -/
theorem block_zero (a : (⟨4, ![2, 4096, 8, 64]⟩ : Shape).Idx → EReal) (b : Fin 2) (j : Fin 512) (h : Fin 8) (d : Fin 64) :
    (Layout.block ⟨4, ![2, 512, 8, 64]⟩ ⟨4, ![2, 4096, 8, 64]⟩ 1 8 (0 : Fin 8) a) (ix4 b j h d) = a (ix4 b (Values.near j) h d) := by
  rw [block_at]
  exact congrArg (fun e => a (ix4 b e h d)) (Fin.ext (by show 0 * 512 + j.val = j.val; omega))

/-- An array whose every block is finite is finite. -/
theorem blocks_real (a : (⟨4, ![2, 4096, 8, 64]⟩ : Shape).Idx → EReal)
    (h : ∀ (c : Fin 8) i, ∃ r : ℝ, (Layout.block ⟨4, ![2, 512, 8, 64]⟩ ⟨4, ![2, 4096, 8, 64]⟩ 1 8 c a) i = (r : EReal)) (i) : ∃ r : ℝ, a i = (r : EReal) := by
  have hj : (i 1).val < 4096 := (i 1).isLt
  obtain ⟨r, e⟩ := h ⟨(i 1).val / 512, by omega⟩ (ix4 (i 0) (⟨(i 1).val % 512, Nat.mod_lt _ (by norm_num)⟩ : Fin 512) (i 2) (i 3))
  refine ⟨r, Eq.trans ?_ ((block_at a _ (i 0) _ (i 2) (i 3)).symm.trans e)⟩
  refine congrArg a (funext fun t => ?_)
  fin_cases t
  · rfl
  · exact Fin.ext (by show (i 1).val = (i 1).val / 512 * 512 + (i 1).val % 512; omega)
  · rfl
  · rfl

/-- What a device computes from its parts of the arrays is the reference's result of the whole arrays. -/
theorem value_eq (m : (ℓ : Loc Cert.KernelIdeal.nD Cert.KernelIdeal.τ Cert.KernelIdeal.sig) → Buf (Elt Ideal) ℓ)
    (x : Vec Ideal Cert.ReferenceIdeal.S2x512x768 .bf16) (wq : Vec Ideal Cert.ReferenceIdeal.S768x512 .bf16)
    (k v : Vec Ideal Cert.ReferenceIdeal.S2x4096x8x64 .bf16) (wo : Vec Ideal Cert.ReferenceIdeal.S512x768 .bf16)
    (hp : Cert.Pre_KernelIdeal_finite_KernelIdeal (hPre_finite_KernelIdeal := finite_kernel_facts) m)
    (hm : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = wq
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c k
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c v
      ∧ m ((c.tc : Thread Cert.KernelIdeal.nD Cert.KernelIdeal.τ).loc Cert.KernelIdeal.main_arg4) = wo)
    (c : Dev Cert.KernelIdeal.nD) :
    Cert.KernelIdeal.Tree.outAt m c = Cert.ReferenceIdeal.Tree.result (F := Ideal) x wq k v wo := by
  have hf := finite_real m hp
  funext i
  have ei : i = ix3 (i 0) (i 1) (i 2) := funext fun t => by fin_cases t <;> rfl
  rw [ei, Cert.KernelIdeal.Tree.outAt, xAt_eq, wqAt_eq, woAt_eq, (hm c).1, (hm c).2.1, (hm c).2.2.2.2]
  refine Values.result_eq x wq k v wo _ (fun i => (hm c).1 ▸ (hf c).1 i) (fun i => (hm c).2.1 ▸ (hf c).2.1 i)
    (blocks_real k fun c i => (hm c).2.2.1 ▸ (hf c).2.2 i) (fun h b j d => ?_) (fun h b j d => ?_) (i 0) (i 1) (i 2)
  · refine Eq.trans ?_ (block_zero k b j h d)
    exact congrFun ((kAt_eq m 0).trans (hm 0).2.2.1) (ix4 b j h d)
  · refine Eq.trans ?_ (block_zero v b j h d)
    exact congrFun ((vAt_eq m 0).trans (hm 0).2.2.2.1) (ix4 b j h d)

/-- The kernel's result is the reference's. -/
theorem algebraic : Cert.algebraic_KernelIdeal_ReferenceIdeal_pre_finite_KernelIdeal (hPre_finite_KernelIdeal := finite_kernel_facts) := by
  intro m g m' g' hp hm
  refine ⟨Cert.ReferenceIdeal.Value.res_main_v38 m' 0, ?_, ?_⟩
  · refine (θ_run Cert.KernelIdeal.defs _ _).mono (fun r h c => ⟨?_, ideal_args m r h.1 c⟩) (Cert.KernelIdeal.Tree.run_main (F := Ideal) m g)
    exact ((ideal_result m r h.1 c).trans (value_eq m _ _ _ _ _ hp hm c)).trans (Cert.ReferenceIdeal.Tree.res_eq (F := Ideal) m' 0).symm
  · exact (θ_run Cert.ReferenceIdeal.defs _ _).mono (fun r h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  finite_kernel_facts, finite_reference_facts,
  frame_kernel, frame_ideal, fun m g _ => frame_ideal m g trivial, frame_reference, fun m g _ => frame_reference m g trivial, mask_named, algebraic⟩

end Cert.Proof

end
